-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)) (v5 : (c : Dev Cert.KernelIdeal.nD) → Buf (Elt Ideal) ((c.tc : Thread Cert.KernelIdeal.nD Cert.KernelIdeal.τ).loc Cert.KernelIdeal.main_v3_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_v3_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_v65) = v2 c
          ∧ r.2.mem ((c.tc : Thread Cert.ReferenceIdeal.nD Cert.ReferenceIdeal.τ).loc Cert.ReferenceIdeal.main_v15) = v3 c
          ∧ r.2.mem ((c.tc : Thread Cert.ReferenceIdeal.nD Cert.ReferenceIdeal.τ).loc Cert.ReferenceIdeal.main_v25) = v4 c
          ∧ r.2.mem ((c.tc : Thread Cert.ReferenceIdeal.nD Cert.ReferenceIdeal.τ).loc Cert.ReferenceIdeal.main_v11) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x8192 : Shape := ⟨3, ![1, 2048, 8192]⟩
abbrev S8192 : Shape := ⟨1, ![8192]⟩
abbrev S1x8192 : Shape := ⟨2, ![1, 8192]⟩
abbrev S1x2048 : Shape := ⟨2, ![1, 2048]⟩
abbrev S1x2048x1024 : Shape := ⟨3, ![1, 2048, 1024]⟩
abbrev S1x64x8192 : Shape := ⟨3, ![1, 64, 8192]⟩
abbrev S1x64x1024 : Shape := ⟨3, ![1, 64, 1024]⟩
abbrev S64x8192 : Shape := ⟨2, ![64, 8192]⟩
abbrev S512x1024 : Shape := ⟨2, ![512, 1024]⟩
abbrev S1024x128 : Shape := ⟨2, ![1024, 128]⟩
abbrev S64x128 : Shape := ⟨2, ![64, 128]⟩
abbrev S1x64x256 : Shape := ⟨3, ![1, 64, 256]⟩
abbrev S64x256 : Shape := ⟨2, ![64, 256]⟩
abbrev S1x256 : Shape := ⟨2, ![1, 256]⟩
abbrev S64 : Shape := ⟨1, ![64]⟩
abbrev S64x1 : Shape := ⟨2, ![64, 1]⟩
abbrev S512x128 : Shape := ⟨2, ![512, 128]⟩
abbrev S1x64x128 : Shape := ⟨3, ![1, 64, 128]⟩
abbrev S1x128 : Shape := ⟨2, ![1, 128]⟩
abbrev S128 : Shape := ⟨1, ![128]⟩

abbrev nBuf : Space → Nat
  | .hbm => 15
  | .vmem => 21
  | .smem => 0
  | _ => 0

abbrev bufTy : (tb : Table) → Fin (tcTables nBuf tb) → BufTy
  | .hbm, ⟨0, _⟩ => ⟨S1x2048x8192, .bf16⟩
  | .hbm, ⟨1, _⟩ => ⟨S1x2048x8192, .bf16⟩
  | .hbm, ⟨2, _⟩ => ⟨S8192, .f32⟩
  | .hbm, ⟨3, _⟩ => ⟨S1x2048x8192, .i32⟩
  | .hbm, ⟨4, _⟩ => ⟨S8192, .f32⟩
  | .hbm, ⟨5, _⟩ => ⟨S8192, .f32⟩
  | .hbm, ⟨6, _⟩ => ⟨S1x8192, .f32⟩
  | .hbm, ⟨7, _⟩ => ⟨S1x8192, .f32⟩
  | .hbm, ⟨8, _⟩ => ⟨S1x8192, .f32⟩
  | .hbm, ⟨9, _⟩ => ⟨S1x2048x8192, .fp8e4m3⟩
  | .hbm, ⟨10, _⟩ => ⟨S1x2048, .f32⟩
  | .hbm, ⟨11, _⟩ => ⟨S1x2048x1024, .i8⟩
  | .hbm, ⟨12, _⟩ => ⟨S1x2048, .f32⟩
  | .hbm, ⟨13, _⟩ => ⟨S1x2048, .f32⟩
  | .hbm, ⟨14, _⟩ => ⟨S1x2048x8192, .bf16⟩
  | .local _ .vmem, ⟨0, _⟩ => ⟨S1x64x8192, .bf16⟩
  | .local _ .vmem, ⟨1, _⟩ => ⟨S1x64x8192, .bf16⟩
  | .local _ .vmem, ⟨2, _⟩ => ⟨S1x64x8192, .bf16⟩
  | .local _ .vmem, ⟨3, _⟩ => ⟨S1x64x8192, .bf16⟩
  | .local _ .vmem, ⟨4, _⟩ => ⟨S1x8192, .f32⟩
  | .local _ .vmem, ⟨5, _⟩ => ⟨S1x64x8192, .i32⟩
  | .local _ .vmem, ⟨6, _⟩ => ⟨S1x64x8192, .i32⟩
  | .local _ .vmem, ⟨7, _⟩ => ⟨S1x8192, .f32⟩
  | .local _ .vmem, ⟨8, _⟩ => ⟨S1x8192, .f32⟩
  | .local _ .vmem, ⟨9, _⟩ => ⟨S1x64x8192, .fp8e4m3⟩
  | .local _ .vmem, ⟨10, _⟩ => ⟨S1x64x8192, .fp8e4m3⟩
  | .local _ .vmem, ⟨11, _⟩ => ⟨S1x2048, .f32⟩
  | .local _ .vmem, ⟨12, _⟩ => ⟨S1x64x1024, .i8⟩
  | .local _ .vmem, ⟨13, _⟩ => ⟨S1x64x1024, .i8⟩
  | .local _ .vmem, ⟨14, _⟩ => ⟨S1x2048, .f32⟩
  | .local _ .vmem, ⟨15, _⟩ => ⟨S1x2048, .f32⟩
  | .local _ .vmem, ⟨16, _⟩ => ⟨S1x64x8192, .bf16⟩
  | .local _ .vmem, ⟨17, _⟩ => ⟨S1x64x8192, .bf16⟩
  | .local _ .vmem, ⟨18, _⟩ => ⟨S64x8192, .f32⟩
  | .local _ .vmem, ⟨19, _⟩ => ⟨S512x1024, .bf16⟩
  | .local _ .vmem, ⟨20, _⟩ => ⟨S1024x128, .bf16⟩
  | _, _ => ⟨S1x2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_v3_5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_1 : BitVec 32 := 0#32
  let c8_i32 : BitVec 32 := 8#32
  let v4 : BitVec 32 := Scalar.addi c0_i32_1 c8_i32
  let c1_i32 : BitVec 32 := 1#32
  ⟨c0_i32_1, v4, c1_i32⟩
def k0_mult1 (k0_t1 : Fin k0_t1_loop.trips) : BitVec 32 :=
  let c0_i32_1 : BitVec 32 := 0#32
  let c1_i32 : BitVec 32 := 1#32
  let arg16 : BitVec 32 := Scf.iv c0_i32_1 c1_i32 k0_t1
  let c1024_i32 : BitVec 32 := 1024#32
  let v235 : BitVec 32 := Scalar.muli arg16 c1024_i32
  let c0_i32_89 : BitVec 32 := 0#32
  let v236 : BitVec 32 := Scalar.addi v235 c0_i32_89
  v236
def k0_off1 (k0_t1 : Fin k0_t1_loop.trips) (c0_i32_89 : BitVec 32) : Fin 3 → Nat :=
  let c0_90 : Index := 0#32
  let c0_91 : Index := 0#32
  let c0_i32_1 : BitVec 32 := 0#32
  let c1_i32 : BitVec 32 := 1#32
  let arg16 : BitVec 32 := Scf.iv c0_i32_1 c1_i32 k0_t1
  let c1024_i32 : BitVec 32 := 1024#32
  let v235 : BitVec 32 := Scalar.muli arg16 c1024_i32
  let v236 : BitVec 32 := Scalar.addi v235 c0_i32_89
  let v237 : BitVec 32 := v236
  let v238 : Index := Scalar.indexCast v237
  ![0, 0, v238.toNat]
def k0_off2 (k0_t1 : Fin k0_t1_loop.trips) (c0_i32_89 : BitVec 32) : Fin 2 → Nat :=
  let c0_94 : Index := 0#32
  let c0_i32_1 : BitVec 32 := 0#32
  let c1_i32 : BitVec 32 := 1#32
  let arg16 : BitVec 32 := Scf.iv c0_i32_1 c1_i32 k0_t1
  let c1024_i32 : BitVec 32 := 1024#32
  let v235 : BitVec 32 := Scalar.muli arg16 c1024_i32
  let v236 : BitVec 32 := Scalar.addi v235 c0_i32_89
  let v237 : BitVec 32 := v236
  let v247 : Index := Scalar.indexCast v237
  ![0, v247.toNat]
def k0_off3 (k0_t1 : Fin k0_t1_loop.trips) (c0_i32_89 : BitVec 32) : Fin 2 → Nat :=
  let c0_101 : Index := 0#32
  let c0_i32_1 : BitVec 32 := 0#32
  let c1_i32 : BitVec 32 := 1#32
  let arg16 : BitVec 32 := Scf.iv c0_i32_1 c1_i32 k0_t1
  let c1024_i32 : BitVec 32 := 1024#32
  let v235 : BitVec 32 := Scalar.muli arg16 c1024_i32
  let v236 : BitVec 32 := Scalar.addi v235 c0_i32_89
  let v237 : BitVec 32 := v236
  let v267 : Index := Scalar.indexCast v237
  ![0, v267.toNat]
def k0_off4 (k0_t1 : Fin k0_t1_loop.trips) : Fin 2 → Nat :=
  let c0_i32_1 : BitVec 32 := 0#32
  let c1_i32 : BitVec 32 := 1#32
  let arg16 : BitVec 32 := Scf.iv c0_i32_1 c1_i32 k0_t1
  let c64_i32_104 : BitVec 32 := 64#32
  let v275 : BitVec 32 := Scalar.muli arg16 c64_i32_104
  let v276 : Index := Scalar.indexCast v275
  let c0_105 : Index := 0#32
  ![v276.toNat, 0]
def k0_mult2 (k0_t1 : Fin k0_t1_loop.trips) : BitVec 32 :=
  let c0_i32_1 : BitVec 32 := 0#32
  let c1_i32 : BitVec 32 := 1#32
  let arg16 : BitVec 32 := Scf.iv c0_i32_1 c1_i32 k0_t1
  let c1024_i32_106 : BitVec 32 := 1024#32
  let v284 : BitVec 32 := Scalar.muli arg16 c1024_i32_106
  let c256_i32 : BitVec 32 := 256#32
  let v285 : BitVec 32 := Scalar.addi v284 c256_i32
  v285
def k0_off5 (k0_t1 : Fin k0_t1_loop.trips) : Fin 2 → Nat :=
  let c0_i32_1 : BitVec 32 := 0#32
  let c1_i32 : BitVec 32 := 1#32
  let arg16 : BitVec 32 := Scf.iv c0_i32_1 c1_i32 k0_t1
  let c64_i32_122 : BitVec 32 := 64#32
  let v324 : BitVec 32 := Scalar.muli arg16 c64_i32_122
  let v325 : Index := Scalar.indexCast v324
  let c256_123 : Index := 256#32
  ![v325.toNat, 256]
def k0_mult3 (k0_t1 : Fin k0_t1_loop.trips) : BitVec 32 :=
  let c0_i32_1 : BitVec 32 := 0#32
  let c1_i32 : BitVec 32 := 1#32
  let arg16 : BitVec 32 := Scf.iv c0_i32_1 c1_i32 k0_t1
  let c1024_i32_124 : BitVec 32 := 1024#32
  let v333 : BitVec 32 := Scalar.muli arg16 c1024_i32_124
  let c512_i32 : BitVec 32 := 512#32
  let v334 : BitVec 32 := Scalar.addi v333 c512_i32
  v334
def k0_off6 (k0_t1 : Fin k0_t1_loop.trips) : Fin 2 → Nat :=
  let c0_i32_1 : BitVec 32 := 0#32
  let c1_i32 : BitVec 32 := 1#32
  let arg16 : BitVec 32 := Scf.iv c0_i32_1 c1_i32 k0_t1
  let c64_i32_140 : BitVec 32 := 64#32
  let v373 : BitVec 32 := Scalar.muli arg16 c64_i32_140
  let v374 : Index := Scalar.indexCast v373
  let c512_141 : Index := 512#32
  ![v374.toNat, 512]
def k0_mult4 (k0_t1 : Fin k0_t1_loop.trips) : BitVec 32 :=
  let c0_i32_1 : BitVec 32 := 0#32
  let c1_i32 : BitVec 32 := 1#32
  let arg16 : BitVec 32 := Scf.iv c0_i32_1 c1_i32 k0_t1
  let c1024_i32_142 : BitVec 32 := 1024#32
  let v382 : BitVec 32 := Scalar.muli arg16 c1024_i32_142
  let c768_i32 : BitVec 32 := 768#32
  let v383 : BitVec 32 := Scalar.addi v382 c768_i32
  v383
def k0_off7 (k0_t1 : Fin k0_t1_loop.trips) : Fin 2 → Nat :=
  let c0_i32_1 : BitVec 32 := 0#32
  let c1_i32 : BitVec 32 := 1#32
  let arg16 : BitVec 32 := Scf.iv c0_i32_1 c1_i32 k0_t1
  let c64_i32_158 : BitVec 32 := 64#32
  let v422 : BitVec 32 := Scalar.muli arg16 c64_i32_158
  let v423 : Index := Scalar.indexCast v422
  let c768_159 : Index := 768#32
  ![v423.toNat, 768]
@[reducible] def k0_t2_loop : Scf.Loop 32 :=
  let c0_i32_26 : BitVec 32 := 0#32
  let c8_i32_27 : BitVec 32 := 8#32
  let v64 : BitVec 32 := Scalar.addi c0_i32_26 c8_i32_27
  let c1_i32_28 : BitVec 32 := 1#32
  ⟨c0_i32_26, v64, c1_i32_28⟩
def k0_mult5 (k0_t2 : Fin k0_t2_loop.trips) : BitVec 32 :=
  let c0_i32_26 : BitVec 32 := 0#32
  let c1_i32_28 : BitVec 32 := 1#32
  let arg16 : BitVec 32 := Scf.iv c0_i32_26 c1_i32_28 k0_t2
  let c1024_i32 : BitVec 32 := 1024#32
  let v235 : BitVec 32 := Scalar.muli arg16 c1024_i32
  let c0_i32_89 : BitVec 32 := 0#32
  let v236 : BitVec 32 := Scalar.addi v235 c0_i32_89
  v236
def k0_off8 (k0_t2 : Fin k0_t2_loop.trips) (c0_i32_89 : BitVec 32) : Fin 2 → Nat :=
  let c0_90 : Index := 0#32
  let c0_i32_26 : BitVec 32 := 0#32
  let c1_i32_28 : BitVec 32 := 1#32
  let arg16 : BitVec 32 := Scf.iv c0_i32_26 c1_i32_28 k0_t2
  let c1024_i32 : BitVec 32 := 1024#32
  let v235 : BitVec 32 := Scalar.muli arg16 c1024_i32
  let v236 : BitVec 32 := Scalar.addi v235 c0_i32_89
  let v237 : BitVec 32 := v236
  let v238 : Index := Scalar.indexCast v237
  ![0, v238.toNat]
def k0_mult6 (k0_t2 : Fin k0_t2_loop.trips) : BitVec 32 :=
  let c0_i32_26 : BitVec 32 := 0#32
  let c1_i32_28 : BitVec 32 := 1#32
  let arg16 : BitVec 32 := Scf.iv c0_i32_26 c1_i32_28 k0_t2
  let c1024_i32_92 : BitVec 32 := 1024#32
  let v250 : BitVec 32 := Scalar.muli arg16 c1024_i32_92
  let c256_i32 : BitVec 32 := 256#32
  let v251 : BitVec 32 := Scalar.addi v250 c256_i32
  v251
def k0_mult7 (k0_t2 : Fin k0_t2_loop.trips) : BitVec 32 :=
  let c0_i32_26 : BitVec 32 := 0#32
  let c1_i32_28 : BitVec 32 := 1#32
  let arg16 : BitVec 32 := Scf.iv c0_i32_26 c1_i32_28 k0_t2
  let c1024_i32_95 : BitVec 32 := 1024#32
  let v265 : BitVec 32 := Scalar.muli arg16 c1024_i32_95
  let c512_i32 : BitVec 32 := 512#32
  let v266 : BitVec 32 := Scalar.addi v265 c512_i32
  v266
def k0_mult8 (k0_t2 : Fin k0_t2_loop.trips) : BitVec 32 :=
  let c0_i32_26 : BitVec 32 := 0#32
  let c1_i32_28 : BitVec 32 := 1#32
  let arg16 : BitVec 32 := Scf.iv c0_i32_26 c1_i32_28 k0_t2
  let c1024_i32_98 : BitVec 32 := 1024#32
  let v280 : BitVec 32 := Scalar.muli arg16 c1024_i32_98
  let c768_i32 : BitVec 32 := 768#32
  let v281 : BitVec 32 := Scalar.addi v280 c768_i32
  v281
@[reducible] def k0_t3_loop : Scf.Loop 32 :=
  let c0_i32_33 : BitVec 32 := 0#32
  let c8_i32_34 : BitVec 32 := 8#32
  let v76 : BitVec 32 := Scalar.addi c0_i32_33 c8_i32_34
  let c1_i32_35 : BitVec 32 := 1#32
  ⟨c0_i32_33, v76, c1_i32_35⟩
def k0_mult9 (k0_t3 : Fin k0_t3_loop.trips) : BitVec 32 :=
  let c0_i32_33 : BitVec 32 := 0#32
  let c1_i32_35 : BitVec 32 := 1#32
  let arg16 : BitVec 32 := Scf.iv c0_i32_33 c1_i32_35 k0_t3
  let c1024_i32 : BitVec 32 := 1024#32
  let v235 : BitVec 32 := Scalar.muli arg16 c1024_i32
  let c0_i32_89 : BitVec 32 := 0#32
  let v236 : BitVec 32 := Scalar.addi v235 c0_i32_89
  v236
def k0_off9 (k0_t3 : Fin k0_t3_loop.trips) (c0_i32_89 : BitVec 32) : Fin 2 → Nat :=
  let c0_90 : Index := 0#32
  let c0_i32_33 : BitVec 32 := 0#32
  let c1_i32_35 : BitVec 32 := 1#32
  let arg16 : BitVec 32 := Scf.iv c0_i32_33 c1_i32_35 k0_t3
  let c1024_i32 : BitVec 32 := 1024#32
  let v235 : BitVec 32 := Scalar.muli arg16 c1024_i32
  let v236 : BitVec 32 := Scalar.addi v235 c0_i32_89
  let v237 : BitVec 32 := v236
  let v238 : Index := Scalar.indexCast v237
  ![0, v238.toNat]
def k0_off10 (k0_t3 : Fin k0_t3_loop.trips) (c0_i32_89 : BitVec 32) : Fin 2 → Nat :=
  let c0_91 : Index := 0#32
  let c0_i32_33 : BitVec 32 := 0#32
  let c1_i32_35 : BitVec 32 := 1#32
  let arg16 : BitVec 32 := Scf.iv c0_i32_33 c1_i32_35 k0_t3
  let c1024_i32 : BitVec 32 := 1024#32
  let v235 : BitVec 32 := Scalar.muli arg16 c1024_i32
  let v236 : BitVec 32 := Scalar.addi v235 c0_i32_89
  let v237 : BitVec 32 := v236
  let v241 : Index := Scalar.indexCast v237
  ![0, v241.toNat]
def k0_mult10 (k0_t3 : Fin k0_t3_loop.trips) : BitVec 32 :=
  let c0_i32_33 : BitVec 32 := 0#32
  let c1_i32_35 : BitVec 32 := 1#32
  let arg16 : BitVec 32 := Scf.iv c0_i32_33 c1_i32_35 k0_t3
  let c1024_i32_94 : BitVec 32 := 1024#32
  let v260 : BitVec 32 := Scalar.muli arg16 c1024_i32_94
  let c256_i32 : BitVec 32 := 256#32
  let v261 : BitVec 32 := Scalar.addi v260 c256_i32
  v261
def k0_mult11 (k0_t3 : Fin k0_t3_loop.trips) : BitVec 32 :=
  let c0_i32_33 : BitVec 32 := 0#32
  let c1_i32_35 : BitVec 32 := 1#32
  let arg16 : BitVec 32 := Scf.iv c0_i32_33 c1_i32_35 k0_t3
  let c1024_i32_99 : BitVec 32 := 1024#32
  let v285 : BitVec 32 := Scalar.muli arg16 c1024_i32_99
  let c512_i32 : BitVec 32 := 512#32
  let v286 : BitVec 32 := Scalar.addi v285 c512_i32
  v286
def k0_mult12 (k0_t3 : Fin k0_t3_loop.trips) : BitVec 32 :=
  let c0_i32_33 : BitVec 32 := 0#32
  let c1_i32_35 : BitVec 32 := 1#32
  let arg16 : BitVec 32 := Scf.iv c0_i32_33 c1_i32_35 k0_t3
  let c1024_i32_104 : BitVec 32 := 1024#32
  let v310 : BitVec 32 := Scalar.muli arg16 c1024_i32_104
  let c768_i32 : BitVec 32 := 768#32
  let v311 : BitVec 32 := Scalar.addi v310 c768_i32
  v311
@[reducible] def k0_t4_loop : Scf.Loop 32 :=
  let c0_i32_57 : BitVec 32 := 0#32
  let c8_i32_58 : BitVec 32 := 8#32
  let v168 : BitVec 32 := Scalar.addi c0_i32_57 c8_i32_58
  let c1_i32_59 : BitVec 32 := 1#32
  ⟨c0_i32_57, v168, c1_i32_59⟩
def k0_mult13 (k0_t4 : Fin k0_t4_loop.trips) : BitVec 32 :=
  let c0_i32_57 : BitVec 32 := 0#32
  let c1_i32_59 : BitVec 32 := 1#32
  let arg16 : BitVec 32 := Scf.iv c0_i32_57 c1_i32_59 k0_t4
  let c1024_i32 : BitVec 32 := 1024#32
  let v235 : BitVec 32 := Scalar.muli arg16 c1024_i32
  let c0_i32_89 : BitVec 32 := 0#32
  let v236 : BitVec 32 := Scalar.addi v235 c0_i32_89
  v236
def k0_off11 (k0_t4 : Fin k0_t4_loop.trips) (c0_i32_89 : BitVec 32) : Fin 2 → Nat :=
  let c0_90 : Index := 0#32
  let c0_i32_57 : BitVec 32 := 0#32
  let c1_i32_59 : BitVec 32 := 1#32
  let arg16 : BitVec 32 := Scf.iv c0_i32_57 c1_i32_59 k0_t4
  let c1024_i32 : BitVec 32 := 1024#32
  let v235 : BitVec 32 := Scalar.muli arg16 c1024_i32
  let v236 : BitVec 32 := Scalar.addi v235 c0_i32_89
  let v237 : BitVec 32 := v236
  let v238 : Index := Scalar.indexCast v237
  ![0, v238.toNat]
def k0_off12 (k0_t4 : Fin k0_t4_loop.trips) (c0_i32_89 : BitVec 32) : Fin 3 → Nat :=
  let c0_93 : Index := 0#32
  let c0_94 : Index := 0#32
  let c0_i32_57 : BitVec 32 := 0#32
  let c1_i32_59 : BitVec 32 := 1#32
  let arg16 : BitVec 32 := Scf.iv c0_i32_57 c1_i32_59 k0_t4
  let c1024_i32 : BitVec 32 := 1024#32
  let v235 : BitVec 32 := Scalar.muli arg16 c1024_i32
  let v236 : BitVec 32 := Scalar.addi v235 c0_i32_89
  let v237 : BitVec 32 := v236
  let v246 : Index := Scalar.indexCast v237
  ![0, 0, v246.toNat]
def k0_mult14 (k0_t4 : Fin k0_t4_loop.trips) : BitVec 32 :=
  let c0_i32_57 : BitVec 32 := 0#32
  let c1_i32_59 : BitVec 32 := 1#32
  let arg16 : BitVec 32 := Scf.iv c0_i32_57 c1_i32_59 k0_t4
  let c1024_i32_95 : BitVec 32 := 1024#32
  let v250 : BitVec 32 := Scalar.muli arg16 c1024_i32_95
  let c256_i32 : BitVec 32 := 256#32
  let v251 : BitVec 32 := Scalar.addi v250 c256_i32
  v251
def k0_mult15 (k0_t4 : Fin k0_t4_loop.trips) : BitVec 32 :=
  let c0_i32_57 : BitVec 32 := 0#32
  let c1_i32_59 : BitVec 32 := 1#32
  let arg16 : BitVec 32 := Scf.iv c0_i32_57 c1_i32_59 k0_t4
  let c1024_i32_101 : BitVec 32 := 1024#32
  let v265 : BitVec 32 := Scalar.muli arg16 c1024_i32_101
  let c512_i32 : BitVec 32 := 512#32
  let v266 : BitVec 32 := Scalar.addi v265 c512_i32
  v266
def k0_mult16 (k0_t4 : Fin k0_t4_loop.trips) : BitVec 32 :=
  let c0_i32_57 : BitVec 32 := 0#32
  let c1_i32_59 : BitVec 32 := 1#32
  let arg16 : BitVec 32 := Scf.iv c0_i32_57 c1_i32_59 k0_t4
  let c1024_i32_107 : BitVec 32 := 1024#32
  let v280 : BitVec 32 := Scalar.muli arg16 c1024_i32_107
  let c768_i32 : BitVec 32 := 768#32
  let v281 : BitVec 32 := Scalar.addi v280 c768_i32
  v281
def k0_mult17 (i : grid0.Coords) : BitVec 32 :=
  let arg0 : BitVec 32 := BitVec.ofNat 32 (i 0).val
  let c64_i32_68 : BitVec 32 := 64#32
  let v180 : BitVec 32 := Scalar.muli arg0 c64_i32_68
  let c0_i32_70 : BitVec 32 := 0#32
  let v182 : BitVec 1 := Scalar.cmpi .sgt v180 c0_i32_70
  let v183 : BitVec 32 := Scalar.extui v182
  let c0_i32_71 : BitVec 32 := 0#32
  let v184 : BitVec 1 := Scalar.cmpi .slt v180 c0_i32_71
  let v185 : BitVec 32 := Scalar.extui v184
  let v186 : BitVec 32 := Scalar.subi v183 v185
  let c128_i32_69 : BitVec 32 := 128#32
  let c0_i32_72 : BitVec 32 := 0#32
  let v187 : BitVec 1 := Scalar.cmpi .sgt c128_i32_69 c0_i32_72
  let v188 : BitVec 32 := Scalar.extui v187
  let c0_i32_73 : BitVec 32 := 0#32
  let v189 : BitVec 1 := Scalar.cmpi .slt c128_i32_69 c0_i32_73
  let v190 : BitVec 32 := Scalar.extui v189
  let v191 : BitVec 32 := Scalar.subi v188 v190
  let v192 : BitVec 1 := Scalar.cmpi .ne v186 v191
  let v193 : BitVec 32 := Scalar.remsi v180 c128_i32_69
  let c0_i32_74 : BitVec 32 := 0#32
  let v194 : BitVec 1 := Scalar.cmpi .ne v193 c0_i32_74
  let v195 : BitVec 1 := Scalar.andi v192 v194
  let v181 : BitVec 32 := Scalar.divsi v180 c128_i32_69
  let c1_i32_75 : BitVec 32 := 1#32
  let v196 : BitVec 32 := Scalar.subi v181 c1_i32_75
  let v197 : BitVec 32 := Scalar.select v195 v196 v181
  let c128_i32_76 : BitVec 32 := 128#32
  let v198 : BitVec 32 := Scalar.muli v197 c128_i32_76
  v198
def k0_off13 (i : grid0.Coords) : Fin 2 → Nat :=
  let c0_77 : Index := 0#32
  let arg0 : BitVec 32 := BitVec.ofNat 32 (i 0).val
  let c64_i32_68 : BitVec 32 := 64#32
  let v180 : BitVec 32 := Scalar.muli arg0 c64_i32_68
  let c0_i32_70 : BitVec 32 := 0#32
  let v182 : BitVec 1 := Scalar.cmpi .sgt v180 c0_i32_70
  let v183 : BitVec 32 := Scalar.extui v182
  let c0_i32_71 : BitVec 32 := 0#32
  let v184 : BitVec 1 := Scalar.cmpi .slt v180 c0_i32_71
  let v185 : BitVec 32 := Scalar.extui v184
  let v186 : BitVec 32 := Scalar.subi v183 v185
  let c128_i32_69 : BitVec 32 := 128#32
  let c0_i32_72 : BitVec 32 := 0#32
  let v187 : BitVec 1 := Scalar.cmpi .sgt c128_i32_69 c0_i32_72
  let v188 : BitVec 32 := Scalar.extui v187
  let c0_i32_73 : BitVec 32 := 0#32
  let v189 : BitVec 1 := Scalar.cmpi .slt c128_i32_69 c0_i32_73
  let v190 : BitVec 32 := Scalar.extui v189
  let v191 : BitVec 32 := Scalar.subi v188 v190
  let v192 : BitVec 1 := Scalar.cmpi .ne v186 v191
  let v193 : BitVec 32 := Scalar.remsi v180 c128_i32_69
  let c0_i32_74 : BitVec 32 := 0#32
  let v194 : BitVec 1 := Scalar.cmpi .ne v193 c0_i32_74
  let v195 : BitVec 1 := Scalar.andi v192 v194
  let v181 : BitVec 32 := Scalar.divsi v180 c128_i32_69
  let c1_i32_75 : BitVec 32 := 1#32
  let v196 : BitVec 32 := Scalar.subi v181 c1_i32_75
  let v197 : BitVec 32 := Scalar.select v195 v196 v181
  let c128_i32_76 : BitVec 32 := 128#32
  let v198 : BitVec 32 := Scalar.muli v197 c128_i32_76
  let v199 : BitVec 32 := v198
  let v205 : Index := Scalar.indexCast v199
  ![0, v205.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x64x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x64x8192 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x64x8192 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x64x1024 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x64x8192 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S1x2048x8192 : Shape := ⟨3, ![1, 2048, 8192]⟩
abbrev S8192 : Shape := ⟨1, ![8192]⟩
abbrev S247 : Shape := ⟨1, ![247]⟩
abbrev S_ : Shape := ⟨0, ![]⟩
abbrev S1x1x8192 : Shape := ⟨3, ![1, 1, 8192]⟩
abbrev S1x2048 : Shape := ⟨2, ![1, 2048]⟩
abbrev S1x2048x1 : Shape := ⟨3, ![1, 2048, 1]⟩
abbrev S1x1x247 : Shape := ⟨3, ![1, 1, 247]⟩
abbrev S1x2048x247 : Shape := ⟨3, ![1, 2048, 247]⟩
abbrev S1x2048x1024x8 : Shape := ⟨4, ![1, 2048, 1024, 8]⟩
abbrev S8 : Shape := ⟨1, ![8]⟩
abbrev S1x1x1x8 : Shape := ⟨4, ![1, 1, 1, 8]⟩
abbrev S1x2048x1024 : Shape := ⟨3, ![1, 2048, 1024]⟩

abbrev nBuf : Space → Nat
  | .hbm => 105
  | .vmem => 2
  | .smem => 0
  | _ => 0

abbrev bufTy : (tb : Table) → Fin (tcTables nBuf tb) → BufTy
  | .hbm, ⟨0, _⟩ => ⟨S1x2048x8192, .bf16⟩
  | .hbm, ⟨1, _⟩ => ⟨S1x2048x8192, .bf16⟩
  | .hbm, ⟨2, _⟩ => ⟨S8192, .f32⟩
  | .hbm, ⟨3, _⟩ => ⟨S1x2048x8192, .i32⟩
  | .hbm, ⟨4, _⟩ => ⟨S8192, .f32⟩
  | .hbm, ⟨5, _⟩ => ⟨S8192, .f32⟩
  | .hbm, ⟨6, _⟩ => ⟨S247, .f32⟩
  | .hbm, ⟨7, _⟩ => ⟨S_, .i32⟩
  | .hbm, ⟨8, _⟩ => ⟨S1x2048x8192, .i32⟩
  | .hbm, ⟨9, _⟩ => ⟨S1x2048x8192, .i1⟩
  | .hbm, ⟨10, _⟩ => ⟨S1x2048x8192, .f32⟩
  | .hbm, ⟨11, _⟩ => ⟨S1x1x8192, .f32⟩
  | .hbm, ⟨12, _⟩ => ⟨S1x2048x8192, .f32⟩
  | .hbm, ⟨13, _⟩ => ⟨S1x2048x8192, .f32⟩
  | .hbm, ⟨14, _⟩ => ⟨S_, .f32⟩
  | .hbm, ⟨15, _⟩ => ⟨S1x2048x8192, .f32⟩
  | .hbm, ⟨16, _⟩ => ⟨S1x2048x8192, .f32⟩
  | .hbm, ⟨17, _⟩ => ⟨S_, .f32⟩
  | .hbm, ⟨18, _⟩ => ⟨S_, .f32⟩
  | .hbm, ⟨19, _⟩ => ⟨S1x2048x8192, .f32⟩
  | .hbm, ⟨20, _⟩ => ⟨S1x2048x8192, .f32⟩
  | .hbm, ⟨21, _⟩ => ⟨S1x2048x8192, .f32⟩
  | .hbm, ⟨22, _⟩ => ⟨S1x2048x8192, .f32⟩
  | .hbm, ⟨23, _⟩ => ⟨S1x2048x8192, .bf16⟩
  | .hbm, ⟨24, _⟩ => ⟨S1x2048x8192, .f32⟩
  | .hbm, ⟨25, _⟩ => ⟨S_, .f32⟩
  | .hbm, ⟨26, _⟩ => ⟨S1x2048, .f32⟩
  | .hbm, ⟨27, _⟩ => ⟨S_, .f32⟩
  | .hbm, ⟨28, _⟩ => ⟨S1x2048, .f32⟩
  | .hbm, ⟨29, _⟩ => ⟨S1x2048, .f32⟩
  | .hbm, ⟨30, _⟩ => ⟨S1x2048x1, .f32⟩
  | .hbm, ⟨31, _⟩ => ⟨S1x2048x8192, .f32⟩
  | .hbm, ⟨32, _⟩ => ⟨S1x2048x8192, .f32⟩
  | .hbm, ⟨33, _⟩ => ⟨S1x2048x8192, .f32⟩
  | .hbm, ⟨34, _⟩ => ⟨S_, .f32⟩
  | .hbm, ⟨35, _⟩ => ⟨S1x2048, .f32⟩
  | .hbm, ⟨36, _⟩ => ⟨S_, .f32⟩
  | .hbm, ⟨37, _⟩ => ⟨S1x2048, .f32⟩
  | .hbm, ⟨38, _⟩ => ⟨S1x2048, .f32⟩
  | .hbm, ⟨39, _⟩ => ⟨S_, .f32⟩
  | .hbm, ⟨40, _⟩ => ⟨S1x2048, .f32⟩
  | .hbm, ⟨41, _⟩ => ⟨S1x2048, .f32⟩
  | .hbm, ⟨42, _⟩ => ⟨S1x2048, .f32⟩
  | .hbm, ⟨43, _⟩ => ⟨S1x2048x1, .f32⟩
  | .hbm, ⟨44, _⟩ => ⟨S1x2048x8192, .f32⟩
  | .hbm, ⟨45, _⟩ => ⟨S1x2048x8192, .f32⟩
  | .hbm, ⟨46, _⟩ => ⟨S1x1x8192, .f32⟩
  | .hbm, ⟨47, _⟩ => ⟨S1x2048x8192, .f32⟩
  | .hbm, ⟨48, _⟩ => ⟨S1x2048x8192, .f32⟩
  | .hbm, ⟨49, _⟩ => ⟨S1x1x8192, .f32⟩
  | .hbm, ⟨50, _⟩ => ⟨S1x2048x8192, .f32⟩
  | .hbm, ⟨51, _⟩ => ⟨S1x2048x8192, .f32⟩
  | .hbm, ⟨52, _⟩ => ⟨S1x2048x8192, .f32⟩
  | .hbm, ⟨53, _⟩ => ⟨S_, .f32⟩
  | .hbm, ⟨54, _⟩ => ⟨S1x2048, .f32⟩
  | .hbm, ⟨55, _⟩ => ⟨S_, .f32⟩
  | .hbm, ⟨56, _⟩ => ⟨S1x2048, .f32⟩
  | .hbm, ⟨57, _⟩ => ⟨S1x2048, .f32⟩
  | .hbm, ⟨58, _⟩ => ⟨S1x2048x1, .f32⟩
  | .hbm, ⟨59, _⟩ => ⟨S1x1x247, .f32⟩
  | .hbm, ⟨60, _⟩ => ⟨S1x2048x247, .f32⟩
  | .hbm, ⟨61, _⟩ => ⟨S1x2048x247, .f32⟩
  | .hbm, ⟨62, _⟩ => ⟨S1x2048x247, .i1⟩
  | .hbm, ⟨63, _⟩ => ⟨S_, .f32⟩
  | .hbm, ⟨64, _⟩ => ⟨S_, .f32⟩
  | .hbm, ⟨65, _⟩ => ⟨S1x2048x247, .f32⟩
  | .hbm, ⟨66, _⟩ => ⟨S1x2048x247, .f32⟩
  | .hbm, ⟨67, _⟩ => ⟨S1x2048x247, .f32⟩
  | .hbm, ⟨68, _⟩ => ⟨S_, .f32⟩
  | .hbm, ⟨69, _⟩ => ⟨S1x2048, .f32⟩
  | .hbm, ⟨70, _⟩ => ⟨S1x2048, .i1⟩
  | .hbm, ⟨71, _⟩ => ⟨S_, .f32⟩
  | .hbm, ⟨72, _⟩ => ⟨S1x2048, .f32⟩
  | .hbm, ⟨73, _⟩ => ⟨S1x2048, .i1⟩
  | .hbm, ⟨74, _⟩ => ⟨S1x2048, .i1⟩
  | .hbm, ⟨75, _⟩ => ⟨S_, .f32⟩
  | .hbm, ⟨76, _⟩ => ⟨S1x2048, .f32⟩
  | .hbm, ⟨77, _⟩ => ⟨S_, .f32⟩
  | .hbm, ⟨78, _⟩ => ⟨S_, .f32⟩
  | .hbm, ⟨79, _⟩ => ⟨S1x2048, .f32⟩
  | .hbm, ⟨80, _⟩ => ⟨S1x2048, .f32⟩
  | .hbm, ⟨81, _⟩ => ⟨S_, .f32⟩
  | .hbm, ⟨82, _⟩ => ⟨S1x2048, .f32⟩
  | .hbm, ⟨83, _⟩ => ⟨S1x2048, .f32⟩
  | .hbm, ⟨84, _⟩ => ⟨S1x2048x1, .f32⟩
  | .hbm, ⟨85, _⟩ => ⟨S1x2048x8192, .f32⟩
  | .hbm, ⟨86, _⟩ => ⟨S1x2048x8192, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S1x2048x8192, .f32⟩
  | .hbm, ⟨91, _⟩ => ⟨S1x2048x8192, .f32⟩
  | .hbm, ⟨92, _⟩ => ⟨S_, .f32⟩
  | .hbm, ⟨93, _⟩ => ⟨S1x2048x8192, .f32⟩
  | .hbm, ⟨94, _⟩ => ⟨S1x2048x8192, .f32⟩
  | .hbm, ⟨95, _⟩ => ⟨S1x2048x1024x8, .i1⟩
  | .hbm, ⟨96, _⟩ => ⟨S1x2048x1024x8, .i32⟩
  | .hbm, ⟨97, _⟩ => ⟨S8, .i32⟩
  | .hbm, ⟨98, _⟩ => ⟨S1x1x1x8, .i32⟩
  | .hbm, ⟨99, _⟩ => ⟨S1x2048x1024x8, .i32⟩
  | .hbm, ⟨100, _⟩ => ⟨S1x2048x1024x8, .i32⟩
  | .hbm, ⟨101, _⟩ => ⟨S_, .i32⟩
  | .hbm, ⟨102, _⟩ => ⟨S1x2048x1024, .i32⟩
  | .hbm, ⟨103, _⟩ => ⟨S1x2048x1024, .i8⟩
  | .hbm, ⟨104, _⟩ => ⟨S1x2048x8192, .fp8e4m3⟩
  | .local _ .vmem, ⟨0, _⟩ => ⟨S1x2048x8192, .f32⟩
  | .local _ .vmem, ⟨1, _⟩ => ⟨S1x2048x8192, .fp8e4m3⟩
  | _, _ => ⟨S1x2048x8192, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_call0_v0 : Ref sig .tc := ⟨.hbm, 18, rfl⟩
abbrev main_call0_v1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_cst_8 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_9 : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_v44 : Ref sig .tc := ⟨.hbm, 67, rfl⟩
abbrev main_cst_10 : Ref sig .tc := ⟨.hbm, 68, rfl⟩
abbrev main_v45 : Ref sig .tc := ⟨.hbm, 69, rfl⟩
abbrev main_v46 : Ref sig .tc := ⟨.hbm, 70, rfl⟩
abbrev main_cst_11 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_12 : Ref sig .tc := ⟨.hbm, 75, rfl⟩
abbrev main_v50 : Ref sig .tc := ⟨.hbm, 76, rfl⟩
abbrev main_cst_13 : Ref sig .tc := ⟨.hbm, 77, rfl⟩
abbrev main_call2_v0 : Ref sig .tc := ⟨.hbm, 78, rfl⟩
abbrev main_call2_v1 : Ref sig .tc := ⟨.hbm, 79, rfl⟩
abbrev main_v51 : Ref sig .tc := ⟨.hbm, 80, rfl⟩
abbrev main_cst_14 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_15 : Ref sig .tc := ⟨.hbm, 87, rfl⟩
abbrev main_cst_16 : Ref sig .tc := ⟨.hbm, 88, rfl⟩
abbrev main_call3_v0 : Ref sig .tc := ⟨.hbm, 89, rfl⟩
abbrev main_call3_v1 : Ref sig .tc := ⟨.hbm, 90, rfl⟩
abbrev main_call3_v2 : Ref sig .tc := ⟨.hbm, 91, rfl⟩
abbrev main_call3_v3 : Ref sig .tc := ⟨.hbm, 92, rfl⟩
abbrev main_call3_v4 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_c_17 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S1x2048x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.KFrame.Base.lean ====
/- What the frame proof of the printed kernel shares: the frame read off a run, the branch condition, the memrefs. -/
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import proofs.«01_k».proof.Proof.Gen.Kernel.Frame
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.KFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of_rel (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      ((h c).2 main_arg2 (Pipeline.mem_restRefs_of main_arg2 (by decide) (by decide))).trans (V_main_arg2 m c),
      (Pipeline.RDat.FramePost.arr_in h c 3 rfl).trans ((hA c 3).trans (V_main_arg3 m c)),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) h

/-! ## The statistics' lane tile -/

/-- The tile of 128 lanes that grid point `i` adds its statistics to: two points share a tile. -/
theorem k0_off13_eq : ∀ i : grid0.Coords, k0_off13 i = ![0, 128 * ((i 0).val / 2)] := by decide +kernel
instance closedOff_k0_off13 (i : grid0.Coords) : ClosedOff (k0_off13 i) := ⟨![0, 128 * ((i 0).val / 2)], k0_off13_eq i⟩

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [cond0_0, e0]
    word_cmp
   : ∀ t : Fin grid0.N, cond0_0 (grid0.coords t) ↔ t.val % 32 = 0)

/-! ## The kernel body on any staging memrefs: a subtype the run finds -/

/-- Each window's current staging memref at point `t`, spelled as the pipeline passes it (`bodyAt0`), and its wholeness. -/
abbrev ms0_0 (t : Fin cfg0.N) : Memref sig .tc .vmem S1x64x8192 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x64x8192 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x8192 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64x8192 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x8192 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x8192 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x64x8192 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x2048 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x64x1024 .i8 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x2048 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x2048 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x64x8192 .bf16 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S64x8192 .f32 := Memref.whole cc0_scratch0
abbrev scM0_1 : Memref sig .tc .vmem S512x1024 .bf16 := Memref.whole cc0_scratch1
abbrev scM0_2 : Memref sig .tc .vmem S1024x128 .bf16 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.KFrame

end
-- ==== Proof.KFrame.RunA.lean ====
/- The kernel body run at the first grid point, nothing named of what it leaves in its outputs. -/
module

public import proofs.«01_k».proof.Proof.KFrame.Base

@[expose] public section

-- membership in a rectangle of production extents (`View.cover_of_tiled`): the elaborator's structural look
-- recurses once per coordinate of the long axes
set_option maxRecDepth 16384

noncomputable section

namespace Cert.Kernel.KFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE A (`scf.if` 0 taken: points 0): on whole staging memrefs — the inputs' at their contents,
    the FORGOTTEN outputs' (6, 7, 8, 9, 10, 11) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg1 : Memref sig .tc .vmem S1x64x8192 .bf16) (harg1 : arg1.IsWhole) (arg2 : Memref sig .tc .vmem S1x64x8192 .bf16) (harg2 : arg2.IsWhole) (arg3 : Memref sig .tc .vmem S1x8192 .f32) (harg3 : arg3.IsWhole) (arg4 : Memref sig .tc .vmem S1x64x8192 .i32) (harg4 : arg4.IsWhole) (arg5 : Memref sig .tc .vmem S1x8192 .f32) (harg5 : arg5.IsWhole) (arg6 : Memref sig .tc .vmem S1x8192 .f32) (harg6 : arg6.IsWhole) (arg7 : Memref sig .tc .vmem S1x64x8192 .fp8e4m3) (harg7 : arg7.IsWhole) (arg8 : Memref sig .tc .vmem S1x2048 .f32) (harg8 : arg8.IsWhole) (arg9 : Memref sig .tc .vmem S1x64x1024 .i8) (harg9 : arg9.IsWhole) (arg10 : Memref sig .tc .vmem S1x2048 .f32) (harg10 : arg10.IsWhole) (arg11 : Memref sig .tc .vmem S1x2048 .f32) (harg11 : arg11.IsWhole) (arg12 : Memref sig .tc .vmem S1x64x8192 .bf16) (harg12 : arg12.IsWhole) (arg13 : Memref sig .tc .vmem S64x8192 .f32) (harg13 : arg13.IsWhole) (arg14 : Memref sig .tc .vmem S512x1024 .bf16) (harg14 : arg14.IsWhole) (arg15 : Memref sig .tc .vmem S1024x128 .bf16) (harg15 : arg15.IsWhole) (hc0 : cond0_0 i)
    (x0 : Vec F S1x64x8192 .bf16) (x1 : Vec F S1x64x8192 .bf16) (x2 : Vec F S1x8192 .f32) (x3 : Vec F S1x64x8192 .i32) (x4 : Vec F S1x8192 .f32) (x5 : Vec F S1x8192 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
          ⊢ wp frame (wpE (defs₀ (F := F)) Variants.none c none) E (cc0_dropout_add_ln_fp8 i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
    intro E K
    simp only [cc0_dropout_add_ln_fp8_eq_skeleton]; unfold cc0_dropout_add_ln_fp8_skel
    simp only [k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Kernel.KFrame

end
-- ==== Proof.KFrame.RunB.lean ====
/- The kernel body run at the every later grid point, nothing named of what it leaves in its outputs. -/
module

public import proofs.«01_k».proof.Proof.KFrame.RunA

@[expose] public section

-- membership in a rectangle of production extents (`View.cover_of_tiled`): the elaborator's structural look
-- recurses once per coordinate of the long axes
set_option maxRecDepth 16384

noncomputable section

namespace Cert.Kernel.KFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE B (`scf.if` 0 not taken: points 1, 2, … 31: 31 of 32): on whole staging memrefs — the inputs' at their contents,
    the FORGOTTEN outputs' (6, 7, 8, 9, 10, 11) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg1 : Memref sig .tc .vmem S1x64x8192 .bf16) (harg1 : arg1.IsWhole) (arg2 : Memref sig .tc .vmem S1x64x8192 .bf16) (harg2 : arg2.IsWhole) (arg3 : Memref sig .tc .vmem S1x8192 .f32) (harg3 : arg3.IsWhole) (arg4 : Memref sig .tc .vmem S1x64x8192 .i32) (harg4 : arg4.IsWhole) (arg5 : Memref sig .tc .vmem S1x8192 .f32) (harg5 : arg5.IsWhole) (arg6 : Memref sig .tc .vmem S1x8192 .f32) (harg6 : arg6.IsWhole) (arg7 : Memref sig .tc .vmem S1x64x8192 .fp8e4m3) (harg7 : arg7.IsWhole) (arg8 : Memref sig .tc .vmem S1x2048 .f32) (harg8 : arg8.IsWhole) (arg9 : Memref sig .tc .vmem S1x64x1024 .i8) (harg9 : arg9.IsWhole) (arg10 : Memref sig .tc .vmem S1x2048 .f32) (harg10 : arg10.IsWhole) (arg11 : Memref sig .tc .vmem S1x2048 .f32) (harg11 : arg11.IsWhole) (arg12 : Memref sig .tc .vmem S1x64x8192 .bf16) (harg12 : arg12.IsWhole) (arg13 : Memref sig .tc .vmem S64x8192 .f32) (harg13 : arg13.IsWhole) (arg14 : Memref sig .tc .vmem S512x1024 .bf16) (harg14 : arg14.IsWhole) (arg15 : Memref sig .tc .vmem S1024x128 .bf16) (harg15 : arg15.IsWhole) (hc0 : ¬cond0_0 i)
    (x0 : Vec F S1x64x8192 .bf16) (x1 : Vec F S1x64x8192 .bf16) (x2 : Vec F S1x8192 .f32) (x3 : Vec F S1x64x8192 .i32) (x4 : Vec F S1x8192 .f32) (x5 : Vec F S1x8192 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
          ⊢ wp frame (wpE (defs₀ (F := F)) Variants.none c none) E (cc0_dropout_add_ln_fp8 i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
    intro E K
    simp only [cc0_dropout_add_ln_fp8_eq_skeleton]; unfold cc0_dropout_add_ln_fp8_skel
    simp only [k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Kernel.KFrame

end
-- ==== Proof.KFrame.Frame.lean ====
/- The frame of the printed kernel: every run ends, the arguments unchanged, every counter at zero. -/
module

public import proofs.«01_k».proof.Proof.KFrame.RunB
public import Idealize.ShloMosaic.Lib.Claim

@[expose] public section

-- membership in a rectangle of production extents (`View.cover_of_tiled`): the elaborator's structural look
-- recurses once per coordinate of the long axes
set_option maxRecDepth 16384

noncomputable section

namespace Cert.Kernel.KFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (6, 7, 8, 9, 10, 11): nothing reads what the kernel leaves in them, so nothing
    of it is named (Lib/Pipeline/Dat.lean `Dat.toRForget`). -/
def forgets0 : Fin 12 → Bool := fun w => w.val == 6 || w.val == 7 || w.val == 8 || w.val == 9 || w.val == 10 || w.val == 11

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d))

set_option maxHeartbeats 2400000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  have hN : t.val < 32 := lt_of_lt_of_eq t.isLt (show cfg0.N = 32 from N_0)
  by_cases h0 : t.val % 32 = 0
  · iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((kernelRun0_A c (grid0.coords t) _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [HS0]; · iexact HS0
    isplitl [HS1]; · iexact HS1
    isplitl [HS2]; · iexact HS2
    iintro ⟨H0, H1, H2, H3, H4, H5, H6, H7, H8, H9, H10, H11, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((kernelRun0_B c (grid0.coords t) _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [HS0]; · iexact HS0
    isplitl [HS1]; · iexact HS1
    isplitl [HS2]; · iexact HS2
    iintro ⟨H0, H1, H2, H3, H4, H5, H6, H7, H8, H9, H10, H11, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 6, 7, 8, 9, 10, 11) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of_rel m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel.KFrame

end
-- ==== Proof.KI.Base.lean ====
/- What the value proof of the idealized kernel shares: the statistics' tile, the branch condition, the memrefs. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp
public import Idealize.ShloMosaic.Lib.Exec
public import Idealize.ShloMosaic.Lib.WritesUnit
public import Idealize.ShloMosaic.Lib.WholeRead
public import Idealize.ShloMosaic.Lib.Pointwise

@[expose] public section

-- membership in a rectangle of production extents (`View.cover_of_tiled`): the elaborator's structural look
-- recurses once per coordinate of the long axes
set_option maxRecDepth 16384

noncomputable section

namespace Cert.KernelIdeal.KI

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F]

local notation "𝕄" => MT nD τ sig Unit (Elt F) ℕ (UR sig nD τ) ℕ

/-! ## The statistics' lane tile -/

/-- The tile of 128 lanes that grid point `i` adds its statistics to: two points share a tile. -/
theorem k0_off13_eq : ∀ i : grid0.Coords, k0_off13 i = ![0, 128 * ((i 0).val / 2)] := by decide +kernel
instance closedOff_k0_off13 (i : grid0.Coords) : ClosedOff (k0_off13 i) := ⟨![0, 128 * ((i 0).val / 2)], k0_off13_eq i⟩

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [cond0_0, e0]
    word_cmp
   : ∀ t : Fin grid0.N, cond0_0 (grid0.coords t) ↔ t.val % 32 = 0)

/-! ## The kernel body on any staging memrefs: a subtype the run finds -/

/-- Each window's current staging memref at point `t`, spelled as the pipeline passes it (`bodyAt0`), and its wholeness. -/
abbrev ms0_0 (t : Fin cfg0.N) : Memref sig .tc .vmem S1x64x8192 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x64x8192 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x8192 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64x8192 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x8192 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x8192 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x64x8192 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x2048 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x64x1024 .i8 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x2048 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x2048 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x64x8192 .bf16 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S64x8192 .f32 := Memref.whole cc0_scratch0
abbrev scM0_1 : Memref sig .tc .vmem S512x1024 .bf16 := Memref.whole cc0_scratch1
abbrev scM0_2 : Memref sig .tc .vmem S1024x128 .bf16 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.KI

end
-- ==== Proof.KI.Cols.lean ====
/- Rows of 8192 lanes read and written 256 columns at a time: a load of a slab at an index, and what a buffer reads
   after the four slabs of one trip are stored. -/
module

public import proofs.«01_k».proof.Proof.KI.Base

@[expose] public section

set_option maxRecDepth 16384

noncomputable section

namespace Cert.KernelIdeal.KI

open Idealize.ShloMosaic Idealize.ShloMosaic.TcCoe
open Cert.KernelIdeal Cert.KernelIdeal.Gen

/-- Lane `n` of a row of 8192 lanes. -/
def col (n : ℕ) : Fin 8192 := ⟨n % 8192, Nat.mod_lt _ (by decide)⟩
/-- Lane `n` of a slab of 256 lanes. -/
def lane (n : ℕ) : Fin 256 := ⟨n % 256, Nat.mod_lt _ (by decide)⟩

theorem col_of_lt {n : ℕ} (h : n < 8192) : col n = ⟨n, h⟩ := Fin.ext (Nat.mod_eq_of_lt h)
@[simp] theorem col_val (j : Fin 8192) : col j.val = j := col_of_lt j.isLt
theorem lane_add (k q : ℕ) (c : Fin 256) : lane (1024 * k + 256 * q + c.val) = c := Fin.ext (by
  show (1024 * k + 256 * q + c.val) % 256 = c.val; omega)

theorem lane_lo (k q : ℕ) (l : Fin 128) : lane (1024 * k + 256 * q + l.val) = ⟨l.val, by omega⟩ := Fin.ext (by
  show (1024 * k + 256 * q + l.val) % 256 = l.val; omega)
theorem lane_hi (k q : ℕ) (l : Fin 128) : lane (1024 * k + 256 * q + (128 + l.val)) = ⟨128 + l.val, by omega⟩ := Fin.ext (by
  show (1024 * k + 256 * q + (128 + l.val)) % 256 = 128 + l.val; omega)

variable {e : EltTy}

/-- A load of 256 columns of the row buffer at column `o`. -/
theorem readAt_cols (v : View sig .tc .vmem S64x8192 e) (f : v.ty.Contents (Elt Ideal)) {off : Fin 2 → ℕ} {o : ℕ}
    (inb : ∀ a, off a + S64x256.size a ≤ S64x8192.size a) (h : off = ![0, o]) (r : Fin 64) (x : Fin 256) :
    View.readAt (Elt Ideal) v (Rect.unit (s := S64x8192) off S64x256.size inb).toLoadRect f (ix2 r x)
      = v.read (Elt Ideal) f (ix2 r (col (o + x.val))) := by
  subst h
  have h1 : o + 256 ≤ 8192 := inb 1
  rw [View.readAt_apply]
  refine congrArg _ (funext fun a => Fin.ext ?_)
  match a with
  | 0 => show 0 + 1 * r.val = r.val; omega
  | 1 => show o + 1 * x.val = (o + x.val) % 8192; omega

/-- A load of 256 columns of a window block of 64 rows at column `o`. -/
theorem readAt_cols3 (v : View sig .tc .vmem S1x64x8192 e) (f : v.ty.Contents (Elt Ideal)) {off : Fin 3 → ℕ} {o : ℕ}
    (inb : ∀ a, off a + S1x64x256.size a ≤ S1x64x8192.size a) (h : off = ![0, 0, o]) (z : Fin 1) (r : Fin 64) (x : Fin 256) :
    View.readAt (Elt Ideal) v (Rect.unit (s := S1x64x8192) off S1x64x256.size inb).toLoadRect f (ix3 z r x)
      = v.read (Elt Ideal) f (ix3 0 r (col (o + x.val))) := by
  subst h
  have h1 : o + 256 ≤ 8192 := inb 2
  rw [View.readAt_apply]
  refine congrArg _ (funext fun a => Fin.ext ?_)
  match a with
  | 0 => show 0 + 1 * z.val = 0; omega
  | 1 => show 0 + 1 * r.val = r.val; omega
  | 2 => show o + 1 * x.val = (o + x.val) % 8192; omega

/-- A load of 256 columns of a single row at column `o`. -/
theorem readAt_row (v : View sig .tc .vmem S1x8192 e) (f : v.ty.Contents (Elt Ideal)) {off : Fin 2 → ℕ} {o : ℕ}
    (inb : ∀ a, off a + S1x256.size a ≤ S1x8192.size a) (h : off = ![0, o]) (r : Fin 1) (x : Fin 256) :
    View.readAt (Elt Ideal) v (Rect.unit (s := S1x8192) off S1x256.size inb).toLoadRect f (ix2 r x)
      = v.read (Elt Ideal) f (ix2 0 (col (o + x.val))) := by
  subst h
  have h1 : o + 256 ≤ 8192 := inb 1
  rw [View.readAt_apply]
  refine congrArg _ (funext fun a => Fin.ext ?_)
  match a with
  | 0 => show 0 + 1 * r.val = 0; omega
  | 1 => show o + 1 * x.val = (o + x.val) % 8192; omega

/-- The row buffer after one trip's four stores: on the trip's 1024 columns what the payloads say, elsewhere as before. -/
theorem read_trip (v : View sig .tc .vmem S64x8192 e) (f : v.ty.Contents (Elt Ideal)) {k : ℕ} (hk : k < 8)
    {o0 o1 o2 o3 : Fin 2 → ℕ} (i0 : ∀ a, o0 a + S64x256.size a ≤ S64x8192.size a)
    (i1 : ∀ a, o1 a + S64x256.size a ≤ S64x8192.size a) (i2 : ∀ a, o2 a + S64x256.size a ≤ S64x8192.size a)
    (i3 : ∀ a, o3 a + S64x256.size a ≤ S64x8192.size a)
    (h0 : o0 = ![0, 1024 * k + 256 * 0]) (h1 : o1 = ![0, 1024 * k + 256 * 1]) (h2 : o2 = ![0, 1024 * k + 256 * 2])
    (h3 : o3 = ![0, 1024 * k + 256 * 3]) (w0 w1 w2 w3 : S64x256.Idx → Elt Ideal e) (V : Fin 64 → ℕ → Elt Ideal e)
    (e0 : ∀ r (x : Fin 256), w0 (ix2 r x) = V r (1024 * k + 256 * 0 + x.val))
    (e1 : ∀ r (x : Fin 256), w1 (ix2 r x) = V r (1024 * k + 256 * 1 + x.val))
    (e2 : ∀ r (x : Fin 256), w2 (ix2 r x) = V r (1024 * k + 256 * 2 + x.val))
    (e3 : ∀ r (x : Fin 256), w3 (ix2 r x) = V r (1024 * k + 256 * 3 + x.val)) (r : Fin 64) (j : Fin 8192) :
    v.read (Elt Ideal) (v.writes (Elt Ideal) f [⟨Rect.unit (s := S64x8192) o3 S64x256.size i3, w3⟩, ⟨Rect.unit (s := S64x8192) o2 S64x256.size i2, w2⟩,
      ⟨Rect.unit (s := S64x8192) o1 S64x256.size i1, w1⟩, ⟨Rect.unit (s := S64x8192) o0 S64x256.size i0, w0⟩]) (ix2 r j)
      = if 1024 * k ≤ j.val ∧ j.val < 1024 * (k + 1) then V r j.val else v.read (Elt Ideal) f (ix2 r j) := by
  have hj := j.isLt
  have miss : ∀ {o : Fin 2 → ℕ} {q : ℕ} (i : ∀ a, o a + S64x256.size a ≤ S64x8192.size a) (h : o = ![0, 1024 * k + 256 * q])
      (w : S64x256.Idx → Elt Ideal e) L, (j.val < 1024 * k + 256 * q ∨ 1024 * k + 256 * q + 256 ≤ j.val) →
      v.read (Elt Ideal) (v.writes (Elt Ideal) f (⟨Rect.unit (s := S64x8192) o S64x256.size i, w⟩ :: L)) (ix2 r j)
        = v.read (Elt Ideal) (v.writes (Elt Ideal) f L) (ix2 r j) := fun i h w L hh =>
    View.read_writes_cons_unit_of_not_mem v f i w L (ix2 r j) h 1 hh
  have hit : ∀ {o : Fin 2 → ℕ} {q : ℕ} (i : ∀ a, o a + S64x256.size a ≤ S64x8192.size a) (h : o = ![0, 1024 * k + 256 * q])
      (w : S64x256.Idx → Elt Ideal e) L (ew : ∀ r (x : Fin 256), w (ix2 r x) = V r (1024 * k + 256 * q + x.val)),
      (1024 * k + 256 * q ≤ j.val ∧ j.val < 1024 * k + 256 * q + 256) →
      v.read (Elt Ideal) (v.writes (Elt Ideal) f (⟨Rect.unit (s := S64x8192) o S64x256.size i, w⟩ :: L)) (ix2 r j) = V r j.val := by
    intro o q i h w L ew hh
    have hx : j.val - (1024 * k + 256 * q) < 256 := by omega
    refine (View.read_writes_cons_unit_of_mem v f i w L (ix2 r j) (ix2 r ⟨j.val - (1024 * k + 256 * q), hx⟩) h ?_).trans ((ew _ _).trans (congrArg (V r) ?_))
    · intro a
      match a with
      | 0 => show r.val = 0 + r.val; omega
      | 1 => show j.val = 1024 * k + 256 * q + (j.val - (1024 * k + 256 * q)); omega
    · show 1024 * k + 256 * q + (j.val - (1024 * k + 256 * q)) = j.val; omega
  by_cases c : 1024 * k ≤ j.val ∧ j.val < 1024 * (k + 1)
  · rw [if_pos c]
    by_cases c3 : 1024 * k + 256 * 3 ≤ j.val
    · exact hit i3 h3 w3 _ e3 (by omega)
    rw [miss i3 h3 w3 _ (by omega)]
    by_cases c2 : 1024 * k + 256 * 2 ≤ j.val
    · exact hit i2 h2 w2 _ e2 (by omega)
    rw [miss i2 h2 w2 _ (by omega)]
    by_cases c1 : 1024 * k + 256 * 1 ≤ j.val
    · exact hit i1 h1 w1 _ e1 (by omega)
    rw [miss i1 h1 w1 _ (by omega)]
    exact hit i0 h0 w0 _ e0 (by omega)
  · rw [if_neg c, miss i3 h3 w3 _ (by omega), miss i2 h2 w2 _ (by omega), miss i1 h1 w1 _ (by omega), miss i0 h0 w0 _ (by omega), View.writes_nil]

/-- The same for a window block of 64 rows. -/
theorem read_trip3 (v : View sig .tc .vmem S1x64x8192 e) (f : v.ty.Contents (Elt Ideal)) {k : ℕ} (hk : k < 8)
    {o0 o1 o2 o3 : Fin 3 → ℕ} (i0 : ∀ a, o0 a + S1x64x256.size a ≤ S1x64x8192.size a)
    (i1 : ∀ a, o1 a + S1x64x256.size a ≤ S1x64x8192.size a) (i2 : ∀ a, o2 a + S1x64x256.size a ≤ S1x64x8192.size a)
    (i3 : ∀ a, o3 a + S1x64x256.size a ≤ S1x64x8192.size a)
    (h0 : o0 = ![0, 0, 1024 * k + 256 * 0]) (h1 : o1 = ![0, 0, 1024 * k + 256 * 1]) (h2 : o2 = ![0, 0, 1024 * k + 256 * 2])
    (h3 : o3 = ![0, 0, 1024 * k + 256 * 3]) (w0 w1 w2 w3 : S1x64x256.Idx → Elt Ideal e) (V : Fin 64 → ℕ → Elt Ideal e)
    (e0 : ∀ z r (x : Fin 256), w0 (ix3 z r x) = V r (1024 * k + 256 * 0 + x.val))
    (e1 : ∀ z r (x : Fin 256), w1 (ix3 z r x) = V r (1024 * k + 256 * 1 + x.val))
    (e2 : ∀ z r (x : Fin 256), w2 (ix3 z r x) = V r (1024 * k + 256 * 2 + x.val))
    (e3 : ∀ z r (x : Fin 256), w3 (ix3 z r x) = V r (1024 * k + 256 * 3 + x.val)) (z : Fin 1) (r : Fin 64) (j : Fin 8192) :
    v.read (Elt Ideal) (v.writes (Elt Ideal) f [⟨Rect.unit (s := S1x64x8192) o3 S1x64x256.size i3, w3⟩, ⟨Rect.unit (s := S1x64x8192) o2 S1x64x256.size i2, w2⟩,
      ⟨Rect.unit (s := S1x64x8192) o1 S1x64x256.size i1, w1⟩, ⟨Rect.unit (s := S1x64x8192) o0 S1x64x256.size i0, w0⟩]) (ix3 z r j)
      = if 1024 * k ≤ j.val ∧ j.val < 1024 * (k + 1) then V r j.val else v.read (Elt Ideal) f (ix3 z r j) := by
  have hj := j.isLt
  have miss : ∀ {o : Fin 3 → ℕ} {q : ℕ} (i : ∀ a, o a + S1x64x256.size a ≤ S1x64x8192.size a) (h : o = ![0, 0, 1024 * k + 256 * q])
      (w : S1x64x256.Idx → Elt Ideal e) L, (j.val < 1024 * k + 256 * q ∨ 1024 * k + 256 * q + 256 ≤ j.val) →
      v.read (Elt Ideal) (v.writes (Elt Ideal) f (⟨Rect.unit (s := S1x64x8192) o S1x64x256.size i, w⟩ :: L)) (ix3 z r j)
        = v.read (Elt Ideal) (v.writes (Elt Ideal) f L) (ix3 z r j) := fun i h w L hh =>
    View.read_writes_cons_unit_of_not_mem v f i w L (ix3 z r j) h 2 hh
  have hit : ∀ {o : Fin 3 → ℕ} {q : ℕ} (i : ∀ a, o a + S1x64x256.size a ≤ S1x64x8192.size a) (h : o = ![0, 0, 1024 * k + 256 * q])
      (w : S1x64x256.Idx → Elt Ideal e) L (ew : ∀ z r (x : Fin 256), w (ix3 z r x) = V r (1024 * k + 256 * q + x.val)),
      (1024 * k + 256 * q ≤ j.val ∧ j.val < 1024 * k + 256 * q + 256) →
      v.read (Elt Ideal) (v.writes (Elt Ideal) f (⟨Rect.unit (s := S1x64x8192) o S1x64x256.size i, w⟩ :: L)) (ix3 z r j) = V r j.val := by
    intro o q i h w L ew hh
    have hx : j.val - (1024 * k + 256 * q) < 256 := by omega
    refine (View.read_writes_cons_unit_of_mem v f i w L (ix3 z r j) (ix3 z r ⟨j.val - (1024 * k + 256 * q), hx⟩) h ?_).trans ((ew _ _ _).trans (congrArg (V r) ?_))
    · intro a
      match a with
      | 0 => show z.val = 0 + z.val; omega
      | 1 => show r.val = 0 + r.val; omega
      | 2 => show j.val = 1024 * k + 256 * q + (j.val - (1024 * k + 256 * q)); omega
    · show 1024 * k + 256 * q + (j.val - (1024 * k + 256 * q)) = j.val; omega
  by_cases c : 1024 * k ≤ j.val ∧ j.val < 1024 * (k + 1)
  · rw [if_pos c]
    by_cases c3 : 1024 * k + 256 * 3 ≤ j.val
    · exact hit i3 h3 w3 _ e3 (by omega)
    rw [miss i3 h3 w3 _ (by omega)]
    by_cases c2 : 1024 * k + 256 * 2 ≤ j.val
    · exact hit i2 h2 w2 _ e2 (by omega)
    rw [miss i2 h2 w2 _ (by omega)]
    by_cases c1 : 1024 * k + 256 * 1 ≤ j.val
    · exact hit i1 h1 w1 _ e1 (by omega)
    rw [miss i1 h1 w1 _ (by omega)]
    exact hit i0 h0 w0 _ e0 (by omega)
  · rw [if_neg c, miss i3 h3 w3 _ (by omega), miss i2 h2 w2 _ (by omega), miss i1 h1 w1 _ (by omega), miss i0 h0 w0 _ (by omega), View.writes_nil]

/-- The keep buffer (512 rows of 1024 lanes) after one trip's four stores: on the trip's 64 rows what the payloads say
    (row `64 k + r`, lane `n`: the payload's value at column `1024 k + n`), elsewhere as before. -/
theorem read_tripK (v : View sig .tc .vmem S512x1024 e) (f : v.ty.Contents (Elt Ideal)) {k : ℕ} (hk : k < 8)
    {o0 o1 o2 o3 : Fin 2 → ℕ} (i0 : ∀ a, o0 a + S64x256.size a ≤ S512x1024.size a)
    (i1 : ∀ a, o1 a + S64x256.size a ≤ S512x1024.size a) (i2 : ∀ a, o2 a + S64x256.size a ≤ S512x1024.size a)
    (i3 : ∀ a, o3 a + S64x256.size a ≤ S512x1024.size a)
    (h0 : o0 = ![64 * k, 256 * 0]) (h1 : o1 = ![64 * k, 256 * 1]) (h2 : o2 = ![64 * k, 256 * 2])
    (h3 : o3 = ![64 * k, 256 * 3]) (w0 w1 w2 w3 : S64x256.Idx → Elt Ideal e) (V : Fin 64 → ℕ → Elt Ideal e)
    (e0 : ∀ r (x : Fin 256), w0 (ix2 r x) = V r (1024 * k + 256 * 0 + x.val))
    (e1 : ∀ r (x : Fin 256), w1 (ix2 r x) = V r (1024 * k + 256 * 1 + x.val))
    (e2 : ∀ r (x : Fin 256), w2 (ix2 r x) = V r (1024 * k + 256 * 2 + x.val))
    (e3 : ∀ r (x : Fin 256), w3 (ix2 r x) = V r (1024 * k + 256 * 3 + x.val)) (r : Fin 512) (j : Fin 1024) :
    v.read (Elt Ideal) (v.writes (Elt Ideal) f [⟨Rect.unit (s := S512x1024) o3 S64x256.size i3, w3⟩, ⟨Rect.unit (s := S512x1024) o2 S64x256.size i2, w2⟩,
      ⟨Rect.unit (s := S512x1024) o1 S64x256.size i1, w1⟩, ⟨Rect.unit (s := S512x1024) o0 S64x256.size i0, w0⟩]) (ix2 r j)
      = if 64 * k ≤ r.val ∧ r.val < 64 * (k + 1) then V ⟨r.val % 64, Nat.mod_lt _ (by decide)⟩ (1024 * k + j.val) else v.read (Elt Ideal) f (ix2 r j) := by
  have hj := j.isLt
  have miss : ∀ {o : Fin 2 → ℕ} {q : ℕ} (i : ∀ a, o a + S64x256.size a ≤ S512x1024.size a) (h : o = ![64 * k, 256 * q])
      (w : S64x256.Idx → Elt Ideal e) L, (j.val < 256 * q ∨ 256 * q + 256 ≤ j.val) →
      v.read (Elt Ideal) (v.writes (Elt Ideal) f (⟨Rect.unit (s := S512x1024) o S64x256.size i, w⟩ :: L)) (ix2 r j)
        = v.read (Elt Ideal) (v.writes (Elt Ideal) f L) (ix2 r j) := fun i h w L hh =>
    View.read_writes_cons_unit_of_not_mem v f i w L (ix2 r j) h 1 hh
  have missR : ∀ {o : Fin 2 → ℕ} {q : ℕ} (i : ∀ a, o a + S64x256.size a ≤ S512x1024.size a) (h : o = ![64 * k, 256 * q])
      (w : S64x256.Idx → Elt Ideal e) L, (r.val < 64 * k ∨ 64 * k + 64 ≤ r.val) →
      v.read (Elt Ideal) (v.writes (Elt Ideal) f (⟨Rect.unit (s := S512x1024) o S64x256.size i, w⟩ :: L)) (ix2 r j)
        = v.read (Elt Ideal) (v.writes (Elt Ideal) f L) (ix2 r j) := fun i h w L hh =>
    View.read_writes_cons_unit_of_not_mem v f i w L (ix2 r j) h 0 hh
  have hit : ∀ {o : Fin 2 → ℕ} {q : ℕ} (i : ∀ a, o a + S64x256.size a ≤ S512x1024.size a) (h : o = ![64 * k, 256 * q])
      (w : S64x256.Idx → Elt Ideal e) L (ew : ∀ r (x : Fin 256), w (ix2 r x) = V r (1024 * k + 256 * q + x.val)),
      (64 * k ≤ r.val ∧ r.val < 64 * (k + 1)) → (256 * q ≤ j.val ∧ j.val < 256 * q + 256) →
      v.read (Elt Ideal) (v.writes (Elt Ideal) f (⟨Rect.unit (s := S512x1024) o S64x256.size i, w⟩ :: L)) (ix2 r j)
        = V ⟨r.val % 64, Nat.mod_lt _ (by decide)⟩ (1024 * k + j.val) := by
    intro o q i h w L ew hr hh
    have hx : j.val - 256 * q < 256 := by omega
    refine (View.read_writes_cons_unit_of_mem v f i w L (ix2 r j) (ix2 ⟨r.val % 64, Nat.mod_lt _ (by decide)⟩ ⟨j.val - 256 * q, hx⟩) h ?_).trans ((ew _ _).trans (congrArg (V _) ?_))
    · intro a
      match a with
      | 0 => show r.val = 64 * k + r.val % 64; omega
      | 1 => show j.val = 256 * q + (j.val - 256 * q); omega
    · show 1024 * k + 256 * q + (j.val - 256 * q) = 1024 * k + j.val; omega
  by_cases c : 64 * k ≤ r.val ∧ r.val < 64 * (k + 1)
  · rw [if_pos c]
    by_cases c3 : 256 * 3 ≤ j.val
    · exact hit i3 h3 w3 _ e3 c (by omega)
    rw [miss i3 h3 w3 _ (by omega)]
    by_cases c2 : 256 * 2 ≤ j.val
    · exact hit i2 h2 w2 _ e2 c (by omega)
    rw [miss i2 h2 w2 _ (by omega)]
    by_cases c1 : 256 * 1 ≤ j.val
    · exact hit i1 h1 w1 _ e1 c (by omega)
    rw [miss i1 h1 w1 _ (by omega)]
    exact hit i0 h0 w0 _ e0 c (by omega)
  · rw [if_neg c, missR i3 h3 w3 _ (by omega), missR i2 h2 w2 _ (by omega), missR i1 h1 w1 _ (by omega), missR i0 h0 w0 _ (by omega), View.writes_nil]

/-! ## Buffers written 1024 columns a trip -/

/-- The row buffer before trip `k`: columns below `1024 k` hold `V`, the rest what the loop found. -/
def mixC {m : Memref sig .tc .vmem S64x8192 e} (hm : m.IsWhole) (V : Fin 64 → ℕ → Elt Ideal e)
    (G : BufTy.Contents (Elt Ideal) m.view.ty) : ℕ → BufTy.Contents (Elt Ideal) m.view.ty
  | 0 => G
  | k + 1 => hm.unread fun j => if (j 1).val < 1024 * (k + 1) then V (j 0) (j 1).val else m.view.read (Elt Ideal) G j

theorem read_mixC {m : Memref sig .tc .vmem S64x8192 e} (hm : m.IsWhole) (V : Fin 64 → ℕ → Elt Ideal e)
    (G : BufTy.Contents (Elt Ideal) m.view.ty) (k : ℕ) (r : Fin 64) (j : Fin 8192) :
    m.view.read (Elt Ideal) (mixC hm V G k) (ix2 r j)
      = if j.val < 1024 * k then V r j.val else m.view.read (Elt Ideal) G (ix2 r j) := by
  cases k with
  | zero => rw [if_neg (by omega)]; rfl
  | succ k => show m.view.read (Elt Ideal) (hm.unread _) _ = _; rw [hm.read_unread]; rfl

theorem mixC_succ {m : Memref sig .tc .vmem S64x8192 e} (hm : m.IsWhole) (V : Fin 64 → ℕ → Elt Ideal e)
    (G f : BufTy.Contents (Elt Ideal) m.view.ty) (k : ℕ)
    (hf : ∀ r j, m.view.read (Elt Ideal) f (ix2 r j) = if 1024 * k ≤ j.val ∧ j.val < 1024 * (k + 1) then V r j.val
      else m.view.read (Elt Ideal) (mixC hm V G k) (ix2 r j)) : f = mixC hm V G (k + 1) := by
  rw [← hm.unread_read f]
  refine congrArg hm.unread (funext fun j => ?_)
  obtain ⟨r, j, rfl⟩ : ∃ r c, j = ix2 r c := ⟨j 0, j 1, funext fun a => by match a with | 0 => rfl | 1 => rfl⟩
  rw [hf, read_mixC]
  show _ = if j.val < 1024 * (k + 1) then V r j.val else m.view.read (Elt Ideal) G (ix2 r j)
  by_cases c : 1024 * k ≤ j.val ∧ j.val < 1024 * (k + 1)
  · rw [if_pos c, if_pos c.2]
  · rw [if_neg c]
    by_cases c' : j.val < 1024 * k
    · rw [if_pos c', if_pos (by omega)]
    · rw [if_neg c', if_neg (by omega)]

/-- A window block of 64 rows before trip `k`, likewise. -/
def mixC3 {m : Memref sig .tc .vmem S1x64x8192 e} (hm : m.IsWhole) (V : Fin 64 → ℕ → Elt Ideal e)
    (G : BufTy.Contents (Elt Ideal) m.view.ty) : ℕ → BufTy.Contents (Elt Ideal) m.view.ty
  | 0 => G
  | k + 1 => hm.unread fun j => if (j 2).val < 1024 * (k + 1) then V (j 1) (j 2).val else m.view.read (Elt Ideal) G j

theorem read_mixC3 {m : Memref sig .tc .vmem S1x64x8192 e} (hm : m.IsWhole) (V : Fin 64 → ℕ → Elt Ideal e)
    (G : BufTy.Contents (Elt Ideal) m.view.ty) (k : ℕ) (z : Fin 1) (r : Fin 64) (j : Fin 8192) :
    m.view.read (Elt Ideal) (mixC3 hm V G k) (ix3 z r j)
      = if j.val < 1024 * k then V r j.val else m.view.read (Elt Ideal) G (ix3 z r j) := by
  cases k with
  | zero => rw [if_neg (by omega)]; rfl
  | succ k => show m.view.read (Elt Ideal) (hm.unread _) _ = _; rw [hm.read_unread]; rfl

theorem mixC3_succ {m : Memref sig .tc .vmem S1x64x8192 e} (hm : m.IsWhole) (V : Fin 64 → ℕ → Elt Ideal e)
    (G f : BufTy.Contents (Elt Ideal) m.view.ty) (k : ℕ)
    (hf : ∀ z r j, m.view.read (Elt Ideal) f (ix3 z r j) = if 1024 * k ≤ j.val ∧ j.val < 1024 * (k + 1) then V r j.val
      else m.view.read (Elt Ideal) (mixC3 hm V G k) (ix3 z r j)) : f = mixC3 hm V G (k + 1) := by
  rw [← hm.unread_read f]
  refine congrArg hm.unread (funext fun j => ?_)
  obtain ⟨z, r, j, rfl⟩ : ∃ z r c, j = ix3 z r c := ⟨j 0, j 1, j 2, funext fun a => by match a with | 0 => rfl | 1 => rfl | 2 => rfl⟩
  rw [hf, read_mixC3]
  show _ = if j.val < 1024 * (k + 1) then V r j.val else m.view.read (Elt Ideal) G (ix3 z r j)
  by_cases c : 1024 * k ≤ j.val ∧ j.val < 1024 * (k + 1)
  · rw [if_pos c, if_pos c.2]
  · rw [if_neg c]
    by_cases c' : j.val < 1024 * k
    · rw [if_pos c', if_pos (by omega)]
    · rw [if_neg c', if_neg (by omega)]

/-- The keep buffer before trip `k`: its first `64 k` rows hold `V` (row `64 t + r`, lane `n`: `V r (1024 t + n)`). -/
def mixK {m : Memref sig .tc .vmem S512x1024 e} (hm : m.IsWhole) (V : Fin 64 → ℕ → Elt Ideal e)
    (G : BufTy.Contents (Elt Ideal) m.view.ty) : ℕ → BufTy.Contents (Elt Ideal) m.view.ty
  | 0 => G
  | k + 1 => hm.unread fun j => if (j 0).val < 64 * (k + 1) then
      V ⟨(j 0).val % 64, Nat.mod_lt _ (by decide)⟩ (1024 * ((j 0).val / 64) + (j 1).val) else m.view.read (Elt Ideal) G j

theorem read_mixK {m : Memref sig .tc .vmem S512x1024 e} (hm : m.IsWhole) (V : Fin 64 → ℕ → Elt Ideal e)
    (G : BufTy.Contents (Elt Ideal) m.view.ty) (k : ℕ) (r : Fin 512) (j : Fin 1024) :
    m.view.read (Elt Ideal) (mixK hm V G k) (ix2 r j)
      = if r.val < 64 * k then V ⟨r.val % 64, Nat.mod_lt _ (by decide)⟩ (1024 * (r.val / 64) + j.val)
        else m.view.read (Elt Ideal) G (ix2 r j) := by
  cases k with
  | zero => rw [if_neg (by omega)]; rfl
  | succ k => show m.view.read (Elt Ideal) (hm.unread _) _ = _; rw [hm.read_unread]; rfl

theorem mixK_succ {m : Memref sig .tc .vmem S512x1024 e} (hm : m.IsWhole) (V : Fin 64 → ℕ → Elt Ideal e)
    (G f : BufTy.Contents (Elt Ideal) m.view.ty) (k : ℕ)
    (hf : ∀ r j, m.view.read (Elt Ideal) f (ix2 r j) = if 64 * k ≤ r.val ∧ r.val < 64 * (k + 1) then
        V ⟨r.val % 64, Nat.mod_lt _ (by decide)⟩ (1024 * k + j.val)
      else m.view.read (Elt Ideal) (mixK hm V G k) (ix2 r j)) : f = mixK hm V G (k + 1) := by
  rw [← hm.unread_read f]
  refine congrArg hm.unread (funext fun j => ?_)
  obtain ⟨r, j, rfl⟩ : ∃ r c, j = ix2 r c := ⟨j 0, j 1, funext fun a => by match a with | 0 => rfl | 1 => rfl⟩
  rw [hf, read_mixK]
  show _ = if r.val < 64 * (k + 1) then V ⟨r.val % 64, Nat.mod_lt _ (by decide)⟩ (1024 * (r.val / 64) + j.val)
    else m.view.read (Elt Ideal) G (ix2 r j)
  by_cases c : 64 * k ≤ r.val ∧ r.val < 64 * (k + 1)
  · have : r.val / 64 = k := by omega
    rw [if_pos c, if_pos c.2, this]
  · rw [if_neg c]
    by_cases c' : r.val < 64 * k
    · rw [if_pos c', if_pos (by omega)]
    · rw [if_neg c', if_neg (by omega)]

/-- A buffer that holds `G` before the first trip and `F k` before trip `k`, where `F 0` is `G`. -/
theorem at0_eq {α : Type} {G : α} {F : ℕ → α} (h : F 0 = G) (k : ℕ) :
    (Nat.casesOn (motive := fun _ => α) k G fun k => F (k + 1)) = F k := by
  cases k with
  | zero => exact h.symm
  | succ k => rfl

/-! ## Lanes accumulated eight blocks of 128 a trip -/

/-- The carried lane sums before trip `k`: lane `l` of row `r` holds the sum of `T r` over the columns below `1024 k`
    that are `l` modulo 128. -/
def accS (init : FVec Ideal S64x128 .f32) (T : Fin 64 → ℕ → EReal) : ℕ → FVec Ideal S64x128 .f32
  | 0 => init
  | k + 1 => fun j => init j + ∑ b ∈ Finset.range (8 * (k + 1)), T (j 0) (128 * b + (j 1).val)

theorem accS_apply (init : FVec Ideal S64x128 .f32) (T : Fin 64 → ℕ → EReal) (k : ℕ) (r : Fin 64) (l : Fin 128) :
    accS init T k (ix2 r l) = init (ix2 r l) + ∑ b ∈ Finset.range (8 * k), T r (128 * b + l.val) := by
  cases k with
  | zero => simp [accS]
  | succ k => rfl

theorem accS_succ (init : FVec Ideal S64x128 .f32) (T : Fin 64 → ℕ → EReal) (k : ℕ) (y : FVec Ideal S64x128 .f32)
    (hy : ∀ r l, y (ix2 r l) = accS init T k (ix2 r l)
      + (T r (1024 * k + 256 * 0 + l.val) + T r (1024 * k + 256 * 0 + (128 + l.val)))
      + (T r (1024 * k + 256 * 1 + l.val) + T r (1024 * k + 256 * 1 + (128 + l.val)))
      + (T r (1024 * k + 256 * 2 + l.val) + T r (1024 * k + 256 * 2 + (128 + l.val)))
      + (T r (1024 * k + 256 * 3 + l.val) + T r (1024 * k + 256 * 3 + (128 + l.val)))) : y = accS init T (k + 1) := by
  funext j
  obtain ⟨r, l, rfl⟩ : ∃ r c, j = ix2 r c := ⟨j 0, j 1, funext fun a => by match a with | 0 => rfl | 1 => rfl⟩
  rw [hy, accS_apply, accS_apply, show 8 * (k + 1) = 8 * k + 1 + 1 + 1 + 1 + 1 + 1 + 1 + 1 by omega]
  simp only [Finset.sum_range_succ]
  have e : ∀ a b : ℕ, a = b → T r a = T r b := fun a b h => congrArg _ h
  rw [e (1024 * k + 256 * 0 + l.val) (128 * (8 * k) + l.val) (by omega),
    e (1024 * k + 256 * 0 + (128 + l.val)) (128 * (8 * k + 1) + l.val) (by omega),
    e (1024 * k + 256 * 1 + l.val) (128 * (8 * k + 2) + l.val) (by omega),
    e (1024 * k + 256 * 1 + (128 + l.val)) (128 * (8 * k + 3) + l.val) (by omega),
    e (1024 * k + 256 * 2 + l.val) (128 * (8 * k + 4) + l.val) (by omega),
    e (1024 * k + 256 * 2 + (128 + l.val)) (128 * (8 * k + 5) + l.val) (by omega),
    e (1024 * k + 256 * 3 + l.val) (128 * (8 * k + 6) + l.val) (by omega),
    e (1024 * k + 256 * 3 + (128 + l.val)) (128 * (8 * k + 7) + l.val) (by omega)]
  simp only [add_assoc]

/-- The carried lane maxima before trip `k`. -/
def accM (init : FVec Ideal S64x128 .f32) (T : Fin 64 → ℕ → EReal) : ℕ → FVec Ideal S64x128 .f32
  | 0 => init
  | k + 1 => fun j => max (init j) ((Finset.range (8 * (k + 1))).sup fun b => T (j 0) (128 * b + (j 1).val))

theorem accM_apply (init : FVec Ideal S64x128 .f32) (T : Fin 64 → ℕ → EReal) (k : ℕ) (r : Fin 64) (l : Fin 128) :
    accM init T k (ix2 r l) = max (init (ix2 r l)) ((Finset.range (8 * k)).sup fun b => T r (128 * b + l.val)) := by
  cases k with
  | zero => simp [accM]
  | succ k => rfl

theorem accM_succ (init : FVec Ideal S64x128 .f32) (T : Fin 64 → ℕ → EReal) (k : ℕ) (y : FVec Ideal S64x128 .f32)
    (hy : ∀ r l, y (ix2 r l) = max (max (max (max (accM init T k (ix2 r l))
      (max (T r (1024 * k + 256 * 0 + l.val)) (T r (1024 * k + 256 * 0 + (128 + l.val)))))
      (max (T r (1024 * k + 256 * 1 + l.val)) (T r (1024 * k + 256 * 1 + (128 + l.val)))))
      (max (T r (1024 * k + 256 * 2 + l.val)) (T r (1024 * k + 256 * 2 + (128 + l.val)))))
      (max (T r (1024 * k + 256 * 3 + l.val)) (T r (1024 * k + 256 * 3 + (128 + l.val))))) : y = accM init T (k + 1) := by
  funext j
  obtain ⟨r, l, rfl⟩ : ∃ r c, j = ix2 r c := ⟨j 0, j 1, funext fun a => by match a with | 0 => rfl | 1 => rfl⟩
  rw [hy, accM_apply, accM_apply, show 8 * (k + 1) = 8 * k + 1 + 1 + 1 + 1 + 1 + 1 + 1 + 1 by omega]
  simp only [Finset.range_add_one, Finset.sup_insert]
  have e : ∀ a b : ℕ, a = b → T r a = T r b := fun a b h => congrArg _ h
  rw [e (1024 * k + 256 * 0 + l.val) (128 * (8 * k) + l.val) (by omega),
    e (1024 * k + 256 * 0 + (128 + l.val)) (128 * (8 * k + 1) + l.val) (by omega),
    e (1024 * k + 256 * 1 + l.val) (128 * (8 * k + 2) + l.val) (by omega),
    e (1024 * k + 256 * 1 + (128 + l.val)) (128 * (8 * k + 3) + l.val) (by omega),
    e (1024 * k + 256 * 2 + l.val) (128 * (8 * k + 4) + l.val) (by omega),
    e (1024 * k + 256 * 2 + (128 + l.val)) (128 * (8 * k + 5) + l.val) (by omega),
    e (1024 * k + 256 * 3 + l.val) (128 * (8 * k + 6) + l.val) (by omega),
    e (1024 * k + 256 * 3 + (128 + l.val)) (128 * (8 * k + 7) + l.val) (by omega)]
  ac_rfl

end Cert.KernelIdeal.KI

end
-- ==== Proof.KI.T2.lean ====
/- The centring loop: what one trip does to the row buffer and to the carried sum of squares. -/
module

public import proofs.«01_k».proof.Proof.KI.Cols

@[expose] public section

set_option maxRecDepth 16384

noncomputable section

namespace Cert.KernelIdeal.KI

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

local notation "𝕄" => MT nD τ sig Unit (Elt Ideal) ℕ (UR sig nD τ) ℕ

/-- What the loop leaves at row `r`, column `n`: the entry less the mean (`v12`, the same in every column). -/
def V2 {m : Memref sig .tc .vmem S64x8192 .f32} (v12 : FVec Ideal S64x256 .f32) (G : BufTy.Contents (Elt Ideal) m.view.ty)
    (r : Fin 64) (n : ℕ) : EReal := m.view.read (Elt Ideal) G (ix2 r (col n)) - v12 (ix2 r (lane n))

/-- A load of a trip's columns finds what the loop found there: the trips before wrote lower columns. -/
theorem ld2 {m : Memref sig .tc .vmem S64x8192 .f32} (hm : m.IsWhole) (G : BufTy.Contents (Elt Ideal) m.view.ty)
    (V : Fin 64 → ℕ → EReal) {k : ℕ} (hk : k < 8) {off : Fin 2 → ℕ} {q : ℕ} (hq : q < 4)
    (inb : ∀ a, off a + S64x256.size a ≤ S64x8192.size a) (h : off = ![0, 1024 * k + 256 * q]) (r : Fin 64) (x : Fin 256) :
    View.readAt (Elt Ideal) m.view (Rect.unit (s := S64x8192) off S64x256.size inb).toLoadRect (mixC hm V G k) (ix2 r x)
      = m.view.read (Elt Ideal) G (ix2 r (col (1024 * k + 256 * q + x.val))) := by
  rw [readAt_cols _ _ inb h, read_mixC, if_neg]
  show ¬ (1024 * k + 256 * q + x.val) % 8192 < _
  have := x.isLt
  omega

/-- The stored slab of one quarter of a trip. -/
theorem pay2_at (v12 : FVec Ideal S64x256 .f32) (g : Fin 64 → ℕ → EReal) {k q : ℕ} {u : Vec Ideal S64x256 .f32}
    (h : ∀ (r : Fin 64) (x : Fin 256), u (ix2 r x) = g r (1024 * k + 256 * q + x.val)) (r : Fin 64) (x : Fin 256) :
    k0_pay28 v12 u (ix2 r x) = g r (1024 * k + 256 * q + x.val) - v12 (ix2 r (lane (1024 * k + 256 * q + x.val))) := by
  pointwise [k0_pay28, k0_pay27]
  rw [h, lane_add]

/-- The carried sum of squares a trip hands on. -/
theorem yield2_at (v12 : FVec Ideal S64x256 .f32) (acc : FVec Ideal S64x128 .f32) (g : Fin 64 → ℕ → EReal) {k : ℕ}
    {u0 u1 u2 u3 : Vec Ideal S64x256 .f32}
    (h0 : ∀ (r : Fin 64) (x : Fin 256), u0 (ix2 r x) = g r (1024 * k + 256 * 0 + x.val))
    (h1 : ∀ (r : Fin 64) (x : Fin 256), u1 (ix2 r x) = g r (1024 * k + 256 * 1 + x.val))
    (h2 : ∀ (r : Fin 64) (x : Fin 256), u2 (ix2 r x) = g r (1024 * k + 256 * 2 + x.val))
    (h3 : ∀ (r : Fin 64) (x : Fin 256), u3 (ix2 r x) = g r (1024 * k + 256 * 3 + x.val))
    (T : Fin 64 → ℕ → EReal) (hT : T = fun r n => (g r n - v12 (ix2 r (lane n))) * (g r n - v12 (ix2 r (lane n))))
    (r : Fin 64) (l : Fin 128) :
    k0_pay72 v12 (k0_pay31 v12 acc u0 u1) (k0_pay34 v12 u2) u3 (ix2 r l) = acc (ix2 r l)
      + (T r (1024 * k + 256 * 0 + l.val) + T r (1024 * k + 256 * 0 + (128 + l.val)))
      + (T r (1024 * k + 256 * 1 + l.val) + T r (1024 * k + 256 * 1 + (128 + l.val)))
      + (T r (1024 * k + 256 * 2 + l.val) + T r (1024 * k + 256 * 2 + (128 + l.val)))
      + (T r (1024 * k + 256 * 3 + l.val) + T r (1024 * k + 256 * 3 + (128 + l.val))) := by
  subst hT
  simp only [lane_lo, lane_hi]
  refine Eq.trans (b := ?_) ?_ ?_
  rotate_left
  · pointwise [k0_pay72, k0_pay31, k0_pay34, k0_pay27, k0_pay29, k0_pay32, k0_pay70]
    simp only [h0, h1, h2, h3]
    rfl
  · rfl

set_option maxHeartbeats 1000000 in
/-- One trip: the row buffer from its state before trip `k` to its state after, the carried sums likewise. -/
theorem step2 (c : Dev nD) (i : grid0.Coords) (arg1 : Memref sig .tc .vmem S1x64x8192 .bf16) (harg1 : arg1.IsWhole) (arg2 : Memref sig .tc .vmem S1x64x8192 .bf16) (harg2 : arg2.IsWhole) (arg3 : Memref sig .tc .vmem S1x8192 .f32) (harg3 : arg3.IsWhole) (arg4 : Memref sig .tc .vmem S1x64x8192 .i32) (harg4 : arg4.IsWhole) (arg5 : Memref sig .tc .vmem S1x8192 .f32) (harg5 : arg5.IsWhole) (arg6 : Memref sig .tc .vmem S1x8192 .f32) (harg6 : arg6.IsWhole) (arg7 : Memref sig .tc .vmem S1x64x8192 .fp8e4m3) (harg7 : arg7.IsWhole) (arg8 : Memref sig .tc .vmem S1x2048 .f32) (harg8 : arg8.IsWhole) (arg9 : Memref sig .tc .vmem S1x64x1024 .i8) (harg9 : arg9.IsWhole) (arg10 : Memref sig .tc .vmem S1x2048 .f32) (harg10 : arg10.IsWhole) (arg11 : Memref sig .tc .vmem S1x2048 .f32) (harg11 : arg11.IsWhole) (arg12 : Memref sig .tc .vmem S1x64x8192 .bf16) (harg12 : arg12.IsWhole) (arg13 : Memref sig .tc .vmem S64x8192 .f32) (harg13 : arg13.IsWhole) (arg14 : Memref sig .tc .vmem S512x1024 .bf16) (harg14 : arg14.IsWhole) (arg15 : Memref sig .tc .vmem S1024x128 .bf16) (harg15 : arg15.IsWhole)
    (v3 : FVec Ideal S64x128 .f32) (v12 : FVec Ideal S64x256 .f32) (v15 : FVec Ideal S512x128 .f32) (v30 : IVec S64x128 8)
    (G : BufTy.Contents (Elt Ideal) arg13.view.ty) (k : Fin k0_t2_loop.trips) (E : Set ℕ) :
    iprop((arg13.view.loc (c : Thread nD τ) ↦[arg13.view.set]{fullShare} mixC harg13 (V2 v12 G) G k.val))
      ⊢ (wp frame (wpE (defs₀ (F := Ideal)) Variants.none (c : Thread nD τ) none) E (k0_t2_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 v3 v12 v15 v30 k (accS v3 (fun r n => V2 v12 G r n * V2 v12 G r n) k.val))
          (fun yld => iprop((arg13.view.loc (c : Thread nD τ) ↦[arg13.view.set]{fullShare} mixC harg13 (V2 v12 G) G (k.val + 1))
            ∗ ⌜yld = accS v3 (fun r n => V2 v12 G r n * V2 v12 G r n) (k.val + 1)⌝)) : sProp 𝕄) := by
  have hk : k.val < 8 := Nat.lt_of_lt_of_le k.isLt k0_t2_abs.2.1
  have q0 := k0_off8_eq k 0
  have q1 := k0_off8_eq k 1
  have q2 := k0_off8_eq k 2
  have q3 := k0_off8_eq k 3
  unfold k0_t2_body
  simp only [k0_part5_eq_skeleton]
  generalize hg : mixC harg13 (V2 v12 G) G k.val = g
  generalize ha : accS v3 (fun r n => V2 v12 G r n * V2 v12 G r n) k.val = acc
  iintro H
  sl_exec
  sl_step
  sl_unfold_words
  subst hg
  subst ha
  have l0 := fun (r : Fin 64) (x : Fin 256) => ld2 harg13 G (V2 v12 G) hk (q := 0) (by decide) (k0_off8_inb k 0) q0 r x
  have l1 := fun (r : Fin 64) (x : Fin 256) => ld2 harg13 G (V2 v12 G) hk (q := 1) (by decide) (k0_off8_inb k 1) q1 r x
  have l2 := fun (r : Fin 64) (x : Fin 256) => ld2 harg13 G (V2 v12 G) hk (q := 2) (by decide) (k0_off8_inb k 2) q2 r x
  have l3 := fun (r : Fin 64) (x : Fin 256) => ld2 harg13 G (V2 v12 G) hk (q := 3) (by decide) (k0_off8_inb k 3) q3 r x
  rw [← mixC_succ harg13 (V2 v12 G) G _ k.val (fun r j => read_trip arg13.view _ hk (k0_off8_inb k 0) (k0_off8_inb k 1) (k0_off8_inb k 2) (k0_off8_inb k 3) q0 q1 q2 q3 _ _ _ _ (V2 v12 G) ?_ ?_ ?_ ?_ r j)]
  isplitl [H]
  · iexact H
  · ipureintro
    refine accS_succ _ _ _ _ fun r l => ?_
    exact yield2_at v12 _ (fun r n => arg13.view.read (Elt Ideal) G (ix2 r (col n))) l0 l1 l2 l3 _ rfl r l
  · exact fun r x => pay2_at v12 (fun r n => arg13.view.read (Elt Ideal) G (ix2 r (col n))) l0 r x
  · exact fun r x => pay2_at v12 (fun r n => arg13.view.read (Elt Ideal) G (ix2 r (col n))) l1 r x
  · exact fun r x => pay2_at v12 (fun r n => arg13.view.read (Elt Ideal) G (ix2 r (col n))) l2 r x
  · exact fun r x => pay2_at v12 (fun r n => arg13.view.read (Elt Ideal) G (ix2 r (col n))) l3 r x

/-- The loop's invariant as the executor reads it. -/
@[reducible] def inv2 (c : Dev nD) (arg13 : Memref sig .tc .vmem S64x8192 .f32) (harg13 : arg13.IsWhole)
    (v3 : FVec Ideal S64x128 .f32) (v12 : FVec Ideal S64x256 .f32)
    (G : BufTy.Contents (Elt Ideal) arg13.view.ty) (k : ℕ) (acc : FVec Ideal S64x128 .f32) : sProp 𝕄 :=
  iprop((∃ f, (arg13.view.loc (c : Thread nD τ) ↦[arg13.view.set]{fullShare} f) ∗ ⌜f = Nat.casesOn (motive := fun _ => _) k G fun k => mixC harg13 (V2 v12 G) G (k + 1)⌝)
    ∗ ⌜acc = accS v3 (fun r n => V2 v12 G r n * V2 v12 G r n) k⌝)

set_option warn.classDefReducibility false in
@[sl_loop]
def loop2 (c : Dev nD) (i : grid0.Coords) (arg1 : Memref sig .tc .vmem S1x64x8192 .bf16) (harg1 : arg1.IsWhole) (arg2 : Memref sig .tc .vmem S1x64x8192 .bf16) (harg2 : arg2.IsWhole) (arg3 : Memref sig .tc .vmem S1x8192 .f32) (harg3 : arg3.IsWhole) (arg4 : Memref sig .tc .vmem S1x64x8192 .i32) (harg4 : arg4.IsWhole) (arg5 : Memref sig .tc .vmem S1x8192 .f32) (harg5 : arg5.IsWhole) (arg6 : Memref sig .tc .vmem S1x8192 .f32) (harg6 : arg6.IsWhole) (arg7 : Memref sig .tc .vmem S1x64x8192 .fp8e4m3) (harg7 : arg7.IsWhole) (arg8 : Memref sig .tc .vmem S1x2048 .f32) (harg8 : arg8.IsWhole) (arg9 : Memref sig .tc .vmem S1x64x1024 .i8) (harg9 : arg9.IsWhole) (arg10 : Memref sig .tc .vmem S1x2048 .f32) (harg10 : arg10.IsWhole) (arg11 : Memref sig .tc .vmem S1x2048 .f32) (harg11 : arg11.IsWhole) (arg12 : Memref sig .tc .vmem S1x64x8192 .bf16) (harg12 : arg12.IsWhole) (arg13 : Memref sig .tc .vmem S64x8192 .f32) (harg13 : arg13.IsWhole) (arg14 : Memref sig .tc .vmem S512x1024 .bf16) (harg14 : arg14.IsWhole) (arg15 : Memref sig .tc .vmem S1024x128 .bf16) (harg15 : arg15.IsWhole)
    (v3 : FVec Ideal S64x128 .f32) (v12 : FVec Ideal S64x256 .f32) (v15 : FVec Ideal S512x128 .f32) (v30 : IVec S64x128 8)
    (G : BufTy.Contents (Elt Ideal) arg13.view.ty) (E : Set ℕ) :
    LoopInv (M := 𝕄) frame (wpE (defs₀ (F := Ideal)) Variants.none (c : Thread nD τ) none) E k0_t2_loop.lb k0_t2_loop.ub k0_t2_loop.st
      k0_t2_ok v3 (k0_t2_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 v3 v12 v15 v30) where
  inv := inv2 c arg13 harg13 v3 v12 G
  step k acc := by
    iintro ⟨⟨%f, H, %hf⟩, %ha⟩
    replace hf := hf.trans (at0_eq (F := mixC harg13 _ _) rfl _)
    subst hf
    subst ha
    iapply (wp_wand_r frame (wpE (defs₀ (F := Ideal)) Variants.none (c : Thread nD τ) none) E)
    isplitl [H]
    · iapply step2 c i arg1 harg1 arg2 harg2 arg3 harg3 arg4 harg4 arg5 harg5 arg6 harg6 arg7 harg7 arg8 harg8 arg9 harg9 arg10 harg10 arg11 harg11 arg12 harg12 arg13 harg13 arg14 harg14 arg15 harg15 v3 v12 v15 v30 G k E
      iexact H
    · iintro %y ⟨H, %hy⟩
      subst hy
      isplitl [H]
      · iexists _
        isplitl [H]
        · iexact H
        · ipureintro; rfl
      · ipureintro; rfl

end Cert.KernelIdeal.KI

end
-- ==== Proof.KI.T3.lean ====
/- The scaling loop: what one trip does to the row buffer and to the carried maxima. -/
module

public import proofs.«01_k».proof.Proof.KI.T2

@[expose] public section

set_option maxRecDepth 16384

noncomputable section

namespace Cert.KernelIdeal.KI

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

local notation "𝕄" => MT nD τ sig Unit (Elt Ideal) ℕ (UR sig nD τ) ℕ

/-- What the loop leaves at row `r`, column `n`: the entry times `rstd` times `gamma` plus `beta`. -/
def V3 {m : Memref sig .tc .vmem S64x8192 .f32} {m5 m6 : Memref sig .tc .vmem S1x8192 .f32} (v75 : FVec Ideal S64x256 .f32)
    (g5 : BufTy.Contents (Elt Ideal) m5.view.ty) (g6 : BufTy.Contents (Elt Ideal) m6.view.ty)
    (G : BufTy.Contents (Elt Ideal) m.view.ty) (r : Fin 64) (n : ℕ) : EReal :=
  m.view.read (Elt Ideal) G (ix2 r (col n)) * v75 (ix2 r (lane n)) * m5.view.read (Elt Ideal) g5 (ix2 0 (col n))
    + m6.view.read (Elt Ideal) g6 (ix2 0 (col n))

/-- Its magnitude. -/
def T3 {m : Memref sig .tc .vmem S64x8192 .f32} {m5 m6 : Memref sig .tc .vmem S1x8192 .f32} (v75 : FVec Ideal S64x256 .f32)
    (g5 : BufTy.Contents (Elt Ideal) m5.view.ty) (g6 : BufTy.Contents (Elt Ideal) m6.view.ty)
    (G : BufTy.Contents (Elt Ideal) m.view.ty) (r : Fin 64) (n : ℕ) : EReal :=
  FloatOps.absf (F := Ideal) (φ := .f32) (V3 v75 g5 g6 G r n)

/-! ## The stored slab of each quarter of a trip -/

theorem pay3_at0 (v75 : FVec Ideal S64x256 .f32) (g : Fin 64 → ℕ → EReal) (gm bt : ℕ → EReal) {k q : ℕ}
    {u : Vec Ideal S64x256 .f32} {gv bv : Vec Ideal S1x256 .f32}
    (h : ∀ (r : Fin 64) (x : Fin 256), u (ix2 r x) = g r (1024 * k + 256 * q + x.val))
    (hg : ∀ (r : Fin 1) (x : Fin 256), gv (ix2 r x) = gm (1024 * k + 256 * q + x.val))
    (hb : ∀ (r : Fin 1) (x : Fin 256), bv (ix2 r x) = bt (1024 * k + 256 * q + x.val)) (r : Fin 64) (x : Fin 256) :
    k0_pay36 v75 u gv bv (ix2 r x) = g r (1024 * k + 256 * q + x.val) * v75 (ix2 r (lane (1024 * k + 256 * q + x.val)))
      * gm (1024 * k + 256 * q + x.val) + bt (1024 * k + 256 * q + x.val) := by
  pointwise [k0_pay36, k0_pay35]
  rw [h, hg, hb, lane_add]

theorem pay3_at1 (v75 : FVec Ideal S64x256 .f32) (g : Fin 64 → ℕ → EReal) (gm bt : ℕ → EReal) {k q : ℕ}
    {u : Vec Ideal S64x256 .f32} {gv bv : Vec Ideal S1x256 .f32}
    (h : ∀ (r : Fin 64) (x : Fin 256), u (ix2 r x) = g r (1024 * k + 256 * q + x.val))
    (hg : ∀ (r : Fin 1) (x : Fin 256), gv (ix2 r x) = gm (1024 * k + 256 * q + x.val))
    (hb : ∀ (r : Fin 1) (x : Fin 256), bv (ix2 r x) = bt (1024 * k + 256 * q + x.val)) (r : Fin 64) (x : Fin 256) :
    k0_pay39 v75 u gv bv (ix2 r x) = g r (1024 * k + 256 * q + x.val) * v75 (ix2 r (lane (1024 * k + 256 * q + x.val)))
      * gm (1024 * k + 256 * q + x.val) + bt (1024 * k + 256 * q + x.val) := by
  pointwise [k0_pay39, k0_pay38]
  rw [h, hg, hb, lane_add]

theorem pay3_at2 (v75 : FVec Ideal S64x256 .f32) (g : Fin 64 → ℕ → EReal) (gm bt : ℕ → EReal) {k q : ℕ}
    {u : Vec Ideal S64x256 .f32} {gv bv : Vec Ideal S1x256 .f32}
    (h : ∀ (r : Fin 64) (x : Fin 256), u (ix2 r x) = g r (1024 * k + 256 * q + x.val))
    (hg : ∀ (r : Fin 1) (x : Fin 256), gv (ix2 r x) = gm (1024 * k + 256 * q + x.val))
    (hb : ∀ (r : Fin 1) (x : Fin 256), bv (ix2 r x) = bt (1024 * k + 256 * q + x.val)) (r : Fin 64) (x : Fin 256) :
    k0_pay41 v75 u gv bv (ix2 r x) = g r (1024 * k + 256 * q + x.val) * v75 (ix2 r (lane (1024 * k + 256 * q + x.val)))
      * gm (1024 * k + 256 * q + x.val) + bt (1024 * k + 256 * q + x.val) := by
  pointwise [k0_pay41, k0_pay40]
  rw [h, hg, hb, lane_add]

theorem pay3_at3 (v75 : FVec Ideal S64x256 .f32) (g : Fin 64 → ℕ → EReal) (gm bt : ℕ → EReal) {k q : ℕ}
    {u : Vec Ideal S64x256 .f32} {gv bv : Vec Ideal S1x256 .f32}
    (h : ∀ (r : Fin 64) (x : Fin 256), u (ix2 r x) = g r (1024 * k + 256 * q + x.val))
    (hg : ∀ (r : Fin 1) (x : Fin 256), gv (ix2 r x) = gm (1024 * k + 256 * q + x.val))
    (hb : ∀ (r : Fin 1) (x : Fin 256), bv (ix2 r x) = bt (1024 * k + 256 * q + x.val)) (r : Fin 64) (x : Fin 256) :
    k0_pay76 (k0_pay43 v75 u gv bv) (ix2 r x) = g r (1024 * k + 256 * q + x.val) * v75 (ix2 r (lane (1024 * k + 256 * q + x.val)))
      * gm (1024 * k + 256 * q + x.val) + bt (1024 * k + 256 * q + x.val) := by
  pointwise [k0_pay76, k0_pay43]
  rw [h, hg, hb, lane_add]

/-- The carried maxima a trip hands on. -/
theorem yield3_at (v75 : FVec Ideal S64x256 .f32) (acc : FVec Ideal S64x128 .f32) (g : Fin 64 → ℕ → EReal) (gm bt : ℕ → EReal) {k : ℕ}
    {u0 u1 u2 u3 : Vec Ideal S64x256 .f32} {gv0 gv1 gv2 gv3 bv0 bv1 bv2 bv3 : Vec Ideal S1x256 .f32}
    (hu0 : ∀ (r : Fin 64) (x : Fin 256), u0 (ix2 r x) = g r (1024 * k + 256 * 0 + x.val)) (hu1 : ∀ (r : Fin 64) (x : Fin 256), u1 (ix2 r x) = g r (1024 * k + 256 * 1 + x.val)) (hu2 : ∀ (r : Fin 64) (x : Fin 256), u2 (ix2 r x) = g r (1024 * k + 256 * 2 + x.val)) (hu3 : ∀ (r : Fin 64) (x : Fin 256), u3 (ix2 r x) = g r (1024 * k + 256 * 3 + x.val))
    (hgv0 : ∀ (r : Fin 1) (x : Fin 256), gv0 (ix2 r x) = gm (1024 * k + 256 * 0 + x.val)) (hgv1 : ∀ (r : Fin 1) (x : Fin 256), gv1 (ix2 r x) = gm (1024 * k + 256 * 1 + x.val)) (hgv2 : ∀ (r : Fin 1) (x : Fin 256), gv2 (ix2 r x) = gm (1024 * k + 256 * 2 + x.val)) (hgv3 : ∀ (r : Fin 1) (x : Fin 256), gv3 (ix2 r x) = gm (1024 * k + 256 * 3 + x.val))
    (hbv0 : ∀ (r : Fin 1) (x : Fin 256), bv0 (ix2 r x) = bt (1024 * k + 256 * 0 + x.val)) (hbv1 : ∀ (r : Fin 1) (x : Fin 256), bv1 (ix2 r x) = bt (1024 * k + 256 * 1 + x.val)) (hbv2 : ∀ (r : Fin 1) (x : Fin 256), bv2 (ix2 r x) = bt (1024 * k + 256 * 2 + x.val)) (hbv3 : ∀ (r : Fin 1) (x : Fin 256), bv3 (ix2 r x) = bt (1024 * k + 256 * 3 + x.val))
    (T : Fin 64 → ℕ → EReal) (hT : T = fun r n => FloatOps.absf (F := Ideal) (φ := .f32) (g r n * v75 (ix2 r (lane n)) * gm n + bt n))
    (r : Fin 64) (l : Fin 128) :
    k0_pay77 (k0_pay42 v75 (k0_pay37 v75 acc u0 gv0 bv0) (k0_pay38 v75 u1 gv1 bv1) u2 gv2 bv2) (k0_pay43 v75 u3 gv3 bv3) (ix2 r l) = max (max (max (max (acc (ix2 r l))
      (max (T r (1024 * k + 256 * 0 + l.val)) (T r (1024 * k + 256 * 0 + (128 + l.val)))))
      (max (T r (1024 * k + 256 * 1 + l.val)) (T r (1024 * k + 256 * 1 + (128 + l.val)))))
      (max (T r (1024 * k + 256 * 2 + l.val)) (T r (1024 * k + 256 * 2 + (128 + l.val)))))
      (max (T r (1024 * k + 256 * 3 + l.val)) (T r (1024 * k + 256 * 3 + (128 + l.val)))) := by
  subst hT
  simp only [lane_lo, lane_hi]
  refine Eq.trans (b := ?_) ?_ ?_
  rotate_left
  · pointwise [k0_pay77, k0_pay42, k0_pay37, k0_pay38, k0_pay43, k0_pay35, k0_pay40]
    simp only [hu0, hu1, hu2, hu3, hgv0, hgv1, hgv2, hgv3, hbv0, hbv1, hbv2, hbv3]
    rfl
  · rfl

set_option maxHeartbeats 2000000 in
/-- One trip: the row buffer from its state before trip `k` to its state after, the carried maxima likewise. -/
theorem step3 (c : Dev nD) (i : grid0.Coords) (arg1 : Memref sig .tc .vmem S1x64x8192 .bf16) (harg1 : arg1.IsWhole) (arg2 : Memref sig .tc .vmem S1x64x8192 .bf16) (harg2 : arg2.IsWhole) (arg3 : Memref sig .tc .vmem S1x8192 .f32) (harg3 : arg3.IsWhole) (arg4 : Memref sig .tc .vmem S1x64x8192 .i32) (harg4 : arg4.IsWhole) (arg5 : Memref sig .tc .vmem S1x8192 .f32) (harg5 : arg5.IsWhole) (arg6 : Memref sig .tc .vmem S1x8192 .f32) (harg6 : arg6.IsWhole) (arg7 : Memref sig .tc .vmem S1x64x8192 .fp8e4m3) (harg7 : arg7.IsWhole) (arg8 : Memref sig .tc .vmem S1x2048 .f32) (harg8 : arg8.IsWhole) (arg9 : Memref sig .tc .vmem S1x64x1024 .i8) (harg9 : arg9.IsWhole) (arg10 : Memref sig .tc .vmem S1x2048 .f32) (harg10 : arg10.IsWhole) (arg11 : Memref sig .tc .vmem S1x2048 .f32) (harg11 : arg11.IsWhole) (arg12 : Memref sig .tc .vmem S1x64x8192 .bf16) (harg12 : arg12.IsWhole) (arg13 : Memref sig .tc .vmem S64x8192 .f32) (harg13 : arg13.IsWhole) (arg14 : Memref sig .tc .vmem S512x1024 .bf16) (harg14 : arg14.IsWhole) (arg15 : Memref sig .tc .vmem S1024x128 .bf16) (harg15 : arg15.IsWhole)
    (v3 : FVec Ideal S64x128 .f32) (v66 : FVec Ideal S64 .f32)
    (g5 : BufTy.Contents (Elt Ideal) arg5.view.ty) (g6 : BufTy.Contents (Elt Ideal) arg6.view.ty)
    (G : BufTy.Contents (Elt Ideal) arg13.view.ty) (k : Fin k0_t3_loop.trips) (E : Set ℕ) :
    iprop((arg5.view.loc (c : Thread nD τ) ↦[arg5.view.set]{fullShare} g5) ∗ (arg6.view.loc (c : Thread nD τ) ↦[arg6.view.set]{fullShare} g6) ∗ (arg13.view.loc (c : Thread nD τ) ↦[arg13.view.set]{fullShare} mixC harg13 (V3 (k0_pay75 v66) g5 g6 G) G k.val))
      ⊢ (wp frame (wpE (defs₀ (F := Ideal)) Variants.none (c : Thread nD τ) none) E (k0_t3_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 v3 v66 k (accM v3 (T3 (k0_pay75 v66) g5 g6 G) k.val))
          (fun yld => iprop(((arg5.view.loc (c : Thread nD τ) ↦[arg5.view.set]{fullShare} g5) ∗ (arg6.view.loc (c : Thread nD τ) ↦[arg6.view.set]{fullShare} g6) ∗ (arg13.view.loc (c : Thread nD τ) ↦[arg13.view.set]{fullShare} mixC harg13 (V3 (k0_pay75 v66) g5 g6 G) G (k.val + 1)))
            ∗ ⌜yld = accM v3 (T3 (k0_pay75 v66) g5 g6 G) (k.val + 1)⌝)) : sProp 𝕄) := by
  have hk : k.val < 8 := Nat.lt_of_lt_of_le k.isLt k0_t3_abs.2.1
  have q0 := k0_off9_eq k 0
  have p0 := k0_off10_eq k 0
  have q1 := k0_off9_eq k 1
  have p1 := k0_off10_eq k 1
  have q2 := k0_off9_eq k 2
  have p2 := k0_off10_eq k 2
  have q3 := k0_off9_eq k 3
  have p3 := k0_off10_eq k 3
  unfold k0_t3_body
  simp only [k0_part6_eq_skeleton, k0_part7_eq_skeleton]
  generalize hg : mixC harg13 (V3 (k0_pay75 v66) g5 g6 G) G k.val = g
  generalize ha : accM v3 (T3 (k0_pay75 v66) g5 g6 G) k.val = acc
  iintro ⟨H5, H6, H⟩
  sl_exec
  sl_step
  sl_unfold_words
  subst hg
  subst ha
  have l0 := fun (r : Fin 64) (x : Fin 256) => ld2 harg13 G (V3 (k0_pay75 v66) g5 g6 G) hk (q := 0) (by decide) (k0_off9_inb k 0) q0 r x
  have m0 := fun (r : Fin 1) (x : Fin 256) => (readAt_row arg5.view g5 (k0_off10_inb k 0) p0 r x)
  have n0 := fun (r : Fin 1) (x : Fin 256) => (readAt_row arg6.view g6 (k0_off10_inb k 0) p0 r x)
  have l1 := fun (r : Fin 64) (x : Fin 256) => ld2 harg13 G (V3 (k0_pay75 v66) g5 g6 G) hk (q := 1) (by decide) (k0_off9_inb k 1) q1 r x
  have m1 := fun (r : Fin 1) (x : Fin 256) => (readAt_row arg5.view g5 (k0_off10_inb k 1) p1 r x)
  have n1 := fun (r : Fin 1) (x : Fin 256) => (readAt_row arg6.view g6 (k0_off10_inb k 1) p1 r x)
  have l2 := fun (r : Fin 64) (x : Fin 256) => ld2 harg13 G (V3 (k0_pay75 v66) g5 g6 G) hk (q := 2) (by decide) (k0_off9_inb k 2) q2 r x
  have m2 := fun (r : Fin 1) (x : Fin 256) => (readAt_row arg5.view g5 (k0_off10_inb k 2) p2 r x)
  have n2 := fun (r : Fin 1) (x : Fin 256) => (readAt_row arg6.view g6 (k0_off10_inb k 2) p2 r x)
  have l3 := fun (r : Fin 64) (x : Fin 256) => ld2 harg13 G (V3 (k0_pay75 v66) g5 g6 G) hk (q := 3) (by decide) (k0_off9_inb k 3) q3 r x
  have m3 := fun (r : Fin 1) (x : Fin 256) => (readAt_row arg5.view g5 (k0_off10_inb k 3) p3 r x)
  have n3 := fun (r : Fin 1) (x : Fin 256) => (readAt_row arg6.view g6 (k0_off10_inb k 3) p3 r x)
  rw [← mixC_succ harg13 (V3 (k0_pay75 v66) g5 g6 G) G _ k.val (fun r j => read_trip arg13.view _ hk (k0_off9_inb k 0) (k0_off9_inb k 1) (k0_off9_inb k 2) (k0_off9_inb k 3) q0 q1 q2 q3 _ _ _ _ (V3 (k0_pay75 v66) g5 g6 G) ?_ ?_ ?_ ?_ r j)]
  isplitl [H H5 H6]
  · isplitl [H5]
    · iexact H5
    isplitl [H6]
    · iexact H6
    · iexact H
  · ipureintro
    refine accM_succ _ _ _ _ fun r l => ?_
    exact yield3_at (k0_pay75 v66) _ (fun r n => arg13.view.read (Elt Ideal) G (ix2 r (col n))) (fun n => arg5.view.read (Elt Ideal) g5 (ix2 0 (col n))) (fun n => arg6.view.read (Elt Ideal) g6 (ix2 0 (col n))) l0 l1 l2 l3 m0 m1 m2 m3 n0 n1 n2 n3 _ rfl r l
  · exact fun r x => pay3_at0 (k0_pay75 v66) (fun r n => arg13.view.read (Elt Ideal) G (ix2 r (col n))) (fun n => arg5.view.read (Elt Ideal) g5 (ix2 0 (col n))) (fun n => arg6.view.read (Elt Ideal) g6 (ix2 0 (col n))) l0 m0 n0 r x
  · exact fun r x => pay3_at1 (k0_pay75 v66) (fun r n => arg13.view.read (Elt Ideal) G (ix2 r (col n))) (fun n => arg5.view.read (Elt Ideal) g5 (ix2 0 (col n))) (fun n => arg6.view.read (Elt Ideal) g6 (ix2 0 (col n))) l1 m1 n1 r x
  · exact fun r x => pay3_at2 (k0_pay75 v66) (fun r n => arg13.view.read (Elt Ideal) G (ix2 r (col n))) (fun n => arg5.view.read (Elt Ideal) g5 (ix2 0 (col n))) (fun n => arg6.view.read (Elt Ideal) g6 (ix2 0 (col n))) l2 m2 n2 r x
  · exact fun r x => pay3_at3 (k0_pay75 v66) (fun r n => arg13.view.read (Elt Ideal) G (ix2 r (col n))) (fun n => arg5.view.read (Elt Ideal) g5 (ix2 0 (col n))) (fun n => arg6.view.read (Elt Ideal) g6 (ix2 0 (col n))) l3 m3 n3 r x

/-- The loop's invariant as the executor reads it. -/
@[reducible] def inv3 (c : Dev nD) (arg5 : Memref sig .tc .vmem S1x8192 .f32) (harg5 : arg5.IsWhole) (arg6 : Memref sig .tc .vmem S1x8192 .f32) (harg6 : arg6.IsWhole) (arg13 : Memref sig .tc .vmem S64x8192 .f32) (harg13 : arg13.IsWhole)
    (v3 : FVec Ideal S64x128 .f32) (v66 : FVec Ideal S64 .f32)
    (g5 : BufTy.Contents (Elt Ideal) arg5.view.ty) (g6 : BufTy.Contents (Elt Ideal) arg6.view.ty)
    (G : BufTy.Contents (Elt Ideal) arg13.view.ty) (k : ℕ) (acc : FVec Ideal S64x128 .f32) : sProp 𝕄 :=
  iprop((arg5.view.loc (c : Thread nD τ) ↦[arg5.view.set]{fullShare} g5) ∗ (arg6.view.loc (c : Thread nD τ) ↦[arg6.view.set]{fullShare} g6) ∗ (∃ f, (arg13.view.loc (c : Thread nD τ) ↦[arg13.view.set]{fullShare} f) ∗ ⌜f = Nat.casesOn (motive := fun _ => _) k G fun k => mixC harg13 (V3 (k0_pay75 v66) g5 g6 G) G (k + 1)⌝)
    ∗ ⌜acc = accM v3 (T3 (k0_pay75 v66) g5 g6 G) k⌝)

set_option warn.classDefReducibility false in
@[sl_loop]
def loop3 (c : Dev nD) (i : grid0.Coords) (arg1 : Memref sig .tc .vmem S1x64x8192 .bf16) (harg1 : arg1.IsWhole) (arg2 : Memref sig .tc .vmem S1x64x8192 .bf16) (harg2 : arg2.IsWhole) (arg3 : Memref sig .tc .vmem S1x8192 .f32) (harg3 : arg3.IsWhole) (arg4 : Memref sig .tc .vmem S1x64x8192 .i32) (harg4 : arg4.IsWhole) (arg5 : Memref sig .tc .vmem S1x8192 .f32) (harg5 : arg5.IsWhole) (arg6 : Memref sig .tc .vmem S1x8192 .f32) (harg6 : arg6.IsWhole) (arg7 : Memref sig .tc .vmem S1x64x8192 .fp8e4m3) (harg7 : arg7.IsWhole) (arg8 : Memref sig .tc .vmem S1x2048 .f32) (harg8 : arg8.IsWhole) (arg9 : Memref sig .tc .vmem S1x64x1024 .i8) (harg9 : arg9.IsWhole) (arg10 : Memref sig .tc .vmem S1x2048 .f32) (harg10 : arg10.IsWhole) (arg11 : Memref sig .tc .vmem S1x2048 .f32) (harg11 : arg11.IsWhole) (arg12 : Memref sig .tc .vmem S1x64x8192 .bf16) (harg12 : arg12.IsWhole) (arg13 : Memref sig .tc .vmem S64x8192 .f32) (harg13 : arg13.IsWhole) (arg14 : Memref sig .tc .vmem S512x1024 .bf16) (harg14 : arg14.IsWhole) (arg15 : Memref sig .tc .vmem S1024x128 .bf16) (harg15 : arg15.IsWhole)
    (v3 : FVec Ideal S64x128 .f32) (v66 : FVec Ideal S64 .f32)
    (g5 : BufTy.Contents (Elt Ideal) arg5.view.ty) (g6 : BufTy.Contents (Elt Ideal) arg6.view.ty)
    (G : BufTy.Contents (Elt Ideal) arg13.view.ty) (E : Set ℕ) :
    LoopInv (M := 𝕄) frame (wpE (defs₀ (F := Ideal)) Variants.none (c : Thread nD τ) none) E k0_t3_loop.lb k0_t3_loop.ub k0_t3_loop.st
      k0_t3_ok v3 (k0_t3_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 v3 v66) where
  inv := inv3 c arg5 harg5 arg6 harg6 arg13 harg13 v3 v66 g5 g6 G
  step k acc := by
    iintro ⟨H5, H6, ⟨%f, H, %hf⟩, %ha⟩
    replace hf := hf.trans (at0_eq (F := mixC harg13 _ _) rfl _)
    subst hf
    subst ha
    iapply (wp_wand_r frame (wpE (defs₀ (F := Ideal)) Variants.none (c : Thread nD τ) none) E)
    isplitl [H5 H6 H]
    · iapply step3 c i arg1 harg1 arg2 harg2 arg3 harg3 arg4 harg4 arg5 harg5 arg6 harg6 arg7 harg7 arg8 harg8 arg9 harg9 arg10 harg10 arg11 harg11 arg12 harg12 arg13 harg13 arg14 harg14 arg15 harg15 v3 v66 g5 g6 G k E
      isplitl [H5]
      · iexact H5
      isplitl [H6]
      · iexact H6
      iexact H
    · iintro %y ⟨⟨H5, H6, H⟩, %hy⟩
      subst hy
      isplitl [H5]
      · iexact H5
      isplitl [H6]
      · iexact H6
      isplitl [H]
      · iexists _
        isplitl [H]
        · iexact H
        · ipureintro; rfl
      ipureintro; rfl

end Cert.KernelIdeal.KI

end
-- ==== Proof.KI.T4.lean ====
/- The quantising loop: what one trip does to the block of codes. -/
module

public import proofs.«01_k».proof.Proof.KI.T3

@[expose] public section

set_option maxRecDepth 16384

noncomputable section

namespace Cert.KernelIdeal.KI

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

local notation "𝕄" => MT nD τ sig Unit (Elt Ideal) ℕ (UR sig nD τ) ℕ

/-- What the loop leaves at row `r`, column `n`: the entry times the reciprocal scale, clipped. -/
def V4 {m : Memref sig .tc .vmem S64x8192 .f32} (v167 : FVec Ideal S64x256 .f32)
    (G : BufTy.Contents (Elt Ideal) m.view.ty) (r : Fin 64) (n : ℕ) : EReal :=
  min (Ideal.ofBits .f32 1138753536#32) (max (Ideal.ofBits .f32 3286237184#32)
    (m.view.read (Elt Ideal) G (ix2 r (col n)) * v167 (ix2 r (lane n))))

/-! ## The stored slab of each quarter of a trip -/

theorem pay4_at0 (v167 : FVec Ideal S64x256 .f32) (g : Fin 64 → ℕ → EReal) {k q : ℕ}
    {u : Vec Ideal S64x256 .f32} (h : ∀ (r : Fin 64) (x : Fin 256), u (ix2 r x) = g r (1024 * k + 256 * q + x.val))
    (z : Fin 1) (r : Fin 64) (x : Fin 256) :
    k0_pay44 v167 u (ix3 z r x) = min (Ideal.ofBits .f32 1138753536#32) (max (Ideal.ofBits .f32 3286237184#32)
      (g r (1024 * k + 256 * q + x.val) * v167 (ix2 r (lane (1024 * k + 256 * q + x.val))))) := by
  pointwise [k0_pay44]
  rw [h, lane_add]

theorem pay4_at1 (v167 : FVec Ideal S64x256 .f32) (g : Fin 64 → ℕ → EReal) {k q : ℕ}
    {u : Vec Ideal S64x256 .f32} (h : ∀ (r : Fin 64) (x : Fin 256), u (ix2 r x) = g r (1024 * k + 256 * q + x.val))
    (z : Fin 1) (r : Fin 64) (x : Fin 256) :
    k0_pay45 v167 u (ix3 z r x) = min (Ideal.ofBits .f32 1138753536#32) (max (Ideal.ofBits .f32 3286237184#32)
      (g r (1024 * k + 256 * q + x.val) * v167 (ix2 r (lane (1024 * k + 256 * q + x.val))))) := by
  pointwise [k0_pay45]
  rw [h, lane_add]

theorem pay4_at2 (v167 : FVec Ideal S64x256 .f32) (g : Fin 64 → ℕ → EReal) {k q : ℕ}
    {u : Vec Ideal S64x256 .f32} (h : ∀ (r : Fin 64) (x : Fin 256), u (ix2 r x) = g r (1024 * k + 256 * q + x.val))
    (z : Fin 1) (r : Fin 64) (x : Fin 256) :
    k0_pay89 (Scalar.ofBits .f32 0x43E00000#32) (k0_pay46 v167 u) (ix3 z r x) = min (Ideal.ofBits .f32 1138753536#32) (max (Ideal.ofBits .f32 3286237184#32)
      (g r (1024 * k + 256 * q + x.val) * v167 (ix2 r (lane (1024 * k + 256 * q + x.val))))) := by
  pointwise [k0_pay89, k0_pay46]
  rw [h, lane_add]

theorem pay4_at3 (v152 : IVec S64x128 1) (v154 : IVec S64x128 32) (c0 : BitVec 32) (g : Fin 64 → ℕ → EReal) {k q : ℕ}
    {u : Vec Ideal S64x256 .f32} (h : ∀ (r : Fin 64) (x : Fin 256), u (ix2 r x) = g r (1024 * k + 256 * q + x.val))
    (z : Fin 1) (r : Fin 64) (x : Fin 256) :
    k0_pay90 v152 v154 c0 u (ix3 z r x) = min (Ideal.ofBits .f32 1138753536#32) (max (Ideal.ofBits .f32 3286237184#32)
      (g r (1024 * k + 256 * q + x.val) * k0_pay88 (F := Ideal) v152 v154 c0 (ix2 r (lane (1024 * k + 256 * q + x.val))))) := by
  generalize hv : k0_pay88 (F := Ideal) v152 v154 c0 = v167
  unfold k0_pay90
  rw [hv]
  pointwise [k0_pay90]
  rw [h, lane_add]

set_option maxHeartbeats 2000000 in
/-- One trip: the block of codes from its state before trip `k` to its state after. -/
theorem step4 (c : Dev nD) (i : grid0.Coords) (arg1 : Memref sig .tc .vmem S1x64x8192 .bf16) (harg1 : arg1.IsWhole) (arg2 : Memref sig .tc .vmem S1x64x8192 .bf16) (harg2 : arg2.IsWhole) (arg3 : Memref sig .tc .vmem S1x8192 .f32) (harg3 : arg3.IsWhole) (arg4 : Memref sig .tc .vmem S1x64x8192 .i32) (harg4 : arg4.IsWhole) (arg5 : Memref sig .tc .vmem S1x8192 .f32) (harg5 : arg5.IsWhole) (arg6 : Memref sig .tc .vmem S1x8192 .f32) (harg6 : arg6.IsWhole) (arg7 : Memref sig .tc .vmem S1x64x8192 .fp8e4m3) (harg7 : arg7.IsWhole) (arg8 : Memref sig .tc .vmem S1x2048 .f32) (harg8 : arg8.IsWhole) (arg9 : Memref sig .tc .vmem S1x64x1024 .i8) (harg9 : arg9.IsWhole) (arg10 : Memref sig .tc .vmem S1x2048 .f32) (harg10 : arg10.IsWhole) (arg11 : Memref sig .tc .vmem S1x2048 .f32) (harg11 : arg11.IsWhole) (arg12 : Memref sig .tc .vmem S1x64x8192 .bf16) (harg12 : arg12.IsWhole) (arg13 : Memref sig .tc .vmem S64x8192 .f32) (harg13 : arg13.IsWhole) (arg14 : Memref sig .tc .vmem S512x1024 .bf16) (harg14 : arg14.IsWhole) (arg15 : Memref sig .tc .vmem S1024x128 .bf16) (harg15 : arg15.IsWhole)
    (arg0 : BitVec 32) (v152 : IVec S64x128 1) (v154 : IVec S64x128 32) (c0 : BitVec 32)
    (G : BufTy.Contents (Elt Ideal) arg13.view.ty) (G7 : BufTy.Contents (Elt Ideal) arg7.view.ty) (k : Fin k0_t4_loop.trips) (E : Set ℕ) :
    iprop((arg13.view.loc (c : Thread nD τ) ↦[arg13.view.set]{fullShare} G) ∗ (arg7.view.loc (c : Thread nD τ) ↦[arg7.view.set]{fullShare} mixC3 harg7 (V4 (k0_pay88 (F := Ideal) v152 v154 c0) G) G7 k.val))
      ⊢ (wp frame (wpE (defs₀ (F := Ideal)) Variants.none (c : Thread nD τ) none) E (k0_t4_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 v152 v154 c0 k ())
          (fun yld => iprop(((arg13.view.loc (c : Thread nD τ) ↦[arg13.view.set]{fullShare} G) ∗ (arg7.view.loc (c : Thread nD τ) ↦[arg7.view.set]{fullShare} mixC3 harg7 (V4 (k0_pay88 (F := Ideal) v152 v154 c0) G) G7 (k.val + 1))))) : sProp 𝕄) := by
  have hk : k.val < 8 := Nat.lt_of_lt_of_le k.isLt k0_t4_abs.2.1
  have q0 := k0_off11_eq k 0
  have p0 := k0_off12_eq k 0
  have q1 := k0_off11_eq k 1
  have p1 := k0_off12_eq k 1
  have q2 := k0_off11_eq k 2
  have p2 := k0_off12_eq k 2
  have q3 := k0_off11_eq k 3
  have p3 := k0_off12_eq k 3
  unfold k0_t4_body
  simp only [k0_part8_eq_skeleton]
  generalize hg : mixC3 harg7 (V4 (k0_pay88 (F := Ideal) v152 v154 c0) G) G7 k.val = g
  iintro ⟨H, H7⟩
  sl_exec
  sl_step
  sl_unfold_words
  subst hg
  have l0 := fun (r : Fin 64) (x : Fin 256) => readAt_cols arg13.view G (k0_off11_inb k 0) q0 r x
  have l1 := fun (r : Fin 64) (x : Fin 256) => readAt_cols arg13.view G (k0_off11_inb k 1) q1 r x
  have l2 := fun (r : Fin 64) (x : Fin 256) => readAt_cols arg13.view G (k0_off11_inb k 2) q2 r x
  have l3 := fun (r : Fin 64) (x : Fin 256) => readAt_cols arg13.view G (k0_off11_inb k 3) q3 r x
  rw [← mixC3_succ harg7 (V4 (k0_pay88 (F := Ideal) v152 v154 c0) G) G7 _ k.val (fun z r j => read_trip3 arg7.view _ hk (k0_off12_inb k 0) (k0_off12_inb k 1) (k0_off12_inb k 2) (k0_off12_inb k 3) p0 p1 p2 p3 _ _ _ _ (V4 (k0_pay88 (F := Ideal) v152 v154 c0) G) ?_ ?_ ?_ ?_ z r j)]
  isplitl [H]
  · iexact H
  · iexact H7
  · exact fun z r x => pay4_at0 (k0_pay88 (F := Ideal) v152 v154 c0) (fun r n => arg13.view.read (Elt Ideal) G (ix2 r (col n))) l0 z r x
  · exact fun z r x => pay4_at1 (k0_pay88 (F := Ideal) v152 v154 c0) (fun r n => arg13.view.read (Elt Ideal) G (ix2 r (col n))) l1 z r x
  · exact fun z r x => pay4_at2 (k0_pay88 (F := Ideal) v152 v154 c0) (fun r n => arg13.view.read (Elt Ideal) G (ix2 r (col n))) l2 z r x
  · exact fun z r x => pay4_at3 v152 v154 c0 (fun r n => arg13.view.read (Elt Ideal) G (ix2 r (col n))) l3 z r x

/-- The loop's invariant as the executor reads it. -/
@[reducible] def inv4 (c : Dev nD) (arg7 : Memref sig .tc .vmem S1x64x8192 .fp8e4m3) (harg7 : arg7.IsWhole) (arg13 : Memref sig .tc .vmem S64x8192 .f32) (harg13 : arg13.IsWhole)
    (arg0 : BitVec 32) (v152 : IVec S64x128 1) (v154 : IVec S64x128 32) (c0 : BitVec 32)
    (G : BufTy.Contents (Elt Ideal) arg13.view.ty) (G7 : BufTy.Contents (Elt Ideal) arg7.view.ty) (k : ℕ) (acc : Unit) : sProp 𝕄 :=
  iprop((arg13.view.loc (c : Thread nD τ) ↦[arg13.view.set]{fullShare} G) ∗ (∃ f, (arg7.view.loc (c : Thread nD τ) ↦[arg7.view.set]{fullShare} f) ∗ ⌜f = Nat.casesOn (motive := fun _ => _) k G7 fun k => mixC3 harg7 (V4 (k0_pay88 (F := Ideal) v152 v154 c0) G) G7 (k + 1)⌝))

set_option warn.classDefReducibility false in
@[sl_loop]
def loop4 (c : Dev nD) (i : grid0.Coords) (arg1 : Memref sig .tc .vmem S1x64x8192 .bf16) (harg1 : arg1.IsWhole) (arg2 : Memref sig .tc .vmem S1x64x8192 .bf16) (harg2 : arg2.IsWhole) (arg3 : Memref sig .tc .vmem S1x8192 .f32) (harg3 : arg3.IsWhole) (arg4 : Memref sig .tc .vmem S1x64x8192 .i32) (harg4 : arg4.IsWhole) (arg5 : Memref sig .tc .vmem S1x8192 .f32) (harg5 : arg5.IsWhole) (arg6 : Memref sig .tc .vmem S1x8192 .f32) (harg6 : arg6.IsWhole) (arg7 : Memref sig .tc .vmem S1x64x8192 .fp8e4m3) (harg7 : arg7.IsWhole) (arg8 : Memref sig .tc .vmem S1x2048 .f32) (harg8 : arg8.IsWhole) (arg9 : Memref sig .tc .vmem S1x64x1024 .i8) (harg9 : arg9.IsWhole) (arg10 : Memref sig .tc .vmem S1x2048 .f32) (harg10 : arg10.IsWhole) (arg11 : Memref sig .tc .vmem S1x2048 .f32) (harg11 : arg11.IsWhole) (arg12 : Memref sig .tc .vmem S1x64x8192 .bf16) (harg12 : arg12.IsWhole) (arg13 : Memref sig .tc .vmem S64x8192 .f32) (harg13 : arg13.IsWhole) (arg14 : Memref sig .tc .vmem S512x1024 .bf16) (harg14 : arg14.IsWhole) (arg15 : Memref sig .tc .vmem S1024x128 .bf16) (harg15 : arg15.IsWhole)
    (arg0 : BitVec 32) (v152 : IVec S64x128 1) (v154 : IVec S64x128 32) (c0 : BitVec 32)
    (G : BufTy.Contents (Elt Ideal) arg13.view.ty) (G7 : BufTy.Contents (Elt Ideal) arg7.view.ty) (E : Set ℕ) :
    LoopInv (M := 𝕄) frame (wpE (defs₀ (F := Ideal)) Variants.none (c : Thread nD τ) none) E k0_t4_loop.lb k0_t4_loop.ub k0_t4_loop.st
      k0_t4_ok () (k0_t4_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 v152 v154 c0) where
  inv := inv4 c arg7 harg7 arg13 harg13 arg0 v152 v154 c0 G G7
  step k acc := by
    iintro ⟨H, ⟨%f, H7, %hf⟩⟩
    replace hf := hf.trans (at0_eq (F := mixC3 harg7 _ _) rfl _)
    subst hf
    iapply (wp_wand_r frame (wpE (defs₀ (F := Ideal)) Variants.none (c : Thread nD τ) none) E)
    isplitl [H H7]
    · iapply step4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 v152 v154 c0 G G7 k E
      isplitl [H]
      · iexact H
      iexact H7
    · iintro %y ⟨H, H7⟩
      isplitl [H]
      · iexact H
      iexists _
      isplitl [H7]
      · iexact H7
      · ipureintro; rfl

end Cert.KernelIdeal.KI

end
-- ==== Proof.KI.T1.lean ====
/- The dropout loop: what one trip does to the residual block, the row buffer, the keep buffer and the carried sums. -/
module

public import proofs.«01_k».proof.Proof.KI.T4

@[expose] public section

set_option maxRecDepth 16384

noncomputable section

namespace Cert.KernelIdeal.KI

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

local notation "𝕄" => MT nD τ sig Unit (Elt Ideal) ℕ (UR sig nD τ) ℕ

/-- The residual row entry: `x` plus the kept `(a + bias)` scaled up, or plus nothing. -/
def hval (x a b : EReal) (w : BitVec 32) : EReal :=
  x + Scalar.select (IntOp.cmpi CmpIPredicate.uge w 429496730#32) ((a + b) * Ideal.ofBits .f32 1066285284#32) 0
/-- Whether an entry is kept, as 1 or 0. -/
def kval (w : BitVec 32) : EReal := Scalar.select (IntOp.cmpi CmpIPredicate.uge w 429496730#32) 1 0

/-- What the loop leaves at row `r`, column `n` of the residual. -/
def VH {m1 m2 : Memref sig .tc .vmem S1x64x8192 .bf16} {m3 : Memref sig .tc .vmem S1x8192 .f32} {m4 : Memref sig .tc .vmem S1x64x8192 .i32}
    (g1 : BufTy.Contents (Elt Ideal) m1.view.ty) (g2 : BufTy.Contents (Elt Ideal) m2.view.ty)
    (g3 : BufTy.Contents (Elt Ideal) m3.view.ty) (g4 : BufTy.Contents (Elt Ideal) m4.view.ty) (r : Fin 64) (n : ℕ) : EReal :=
  hval (m1.view.read (Elt Ideal) g1 (ix3 0 r (col n))) (m2.view.read (Elt Ideal) g2 (ix3 0 r (col n)))
    (m3.view.read (Elt Ideal) g3 (ix2 0 (col n))) (m4.view.read (Elt Ideal) g4 (ix3 0 r (col n)))
/-- What the loop leaves of the keep mask for row `r`, column `n`. -/
def VK {m4 : Memref sig .tc .vmem S1x64x8192 .i32} (g4 : BufTy.Contents (Elt Ideal) m4.view.ty) (r : Fin 64) (n : ℕ) : EReal :=
  kval (m4.view.read (Elt Ideal) g4 (ix3 0 r (col n)))

/-! ## The stored slabs of each quarter of a trip -/

theorem payH_at0 (gx ga : Fin 64 → ℕ → EReal) (gw : Fin 64 → ℕ → BitVec 32) (gb : ℕ → EReal) {k q : ℕ}
    {x a : Vec Ideal S1x64x256 .bf16} {b : Vec Ideal S1x256 .f32} {w : Vec Ideal S1x64x256 .i32}
    (hx : ∀ (z : Fin 1) (r : Fin 64) (c : Fin 256), x (ix3 z r c) = gx r (1024 * k + 256 * q + c.val))
    (ha : ∀ (z : Fin 1) (r : Fin 64) (c : Fin 256), a (ix3 z r c) = ga r (1024 * k + 256 * q + c.val))
    (hw : ∀ (z : Fin 1) (r : Fin 64) (c : Fin 256), w (ix3 z r c) = gw r (1024 * k + 256 * q + c.val))
    (hb : ∀ (r : Fin 1) (c : Fin 256), b (ix2 r c) = gb (1024 * k + 256 * q + c.val)) (z : Fin 1) (r : Fin 64) (y : Fin 256) :
    k0_pay3 w a b x (ix3 z r y) = hval (gx r (1024 * k + 256 * q + y.val)) (ga r (1024 * k + 256 * q + y.val)) (gb (1024 * k + 256 * q + y.val)) (gw r (1024 * k + 256 * q + y.val)) := by
  unfold hval
  refine Eq.trans (b := ?_) ?_ ?_
  rotate_left
  · pointwise [k0_pay1, k0_pay2, k0_pay3, k0_pay4, k0_pay5, k0_pay6, k0_pay7]
    simp only [hx, ha, hw, hb]
    rfl
  · rfl

theorem payY_at0 (gx ga : Fin 64 → ℕ → EReal) (gw : Fin 64 → ℕ → BitVec 32) (gb : ℕ → EReal) {k q : ℕ}
    {x a : Vec Ideal S1x64x256 .bf16} {b : Vec Ideal S1x256 .f32} {w : Vec Ideal S1x64x256 .i32}
    (hx : ∀ (z : Fin 1) (r : Fin 64) (c : Fin 256), x (ix3 z r c) = gx r (1024 * k + 256 * q + c.val))
    (ha : ∀ (z : Fin 1) (r : Fin 64) (c : Fin 256), a (ix3 z r c) = ga r (1024 * k + 256 * q + c.val))
    (hw : ∀ (z : Fin 1) (r : Fin 64) (c : Fin 256), w (ix3 z r c) = gw r (1024 * k + 256 * q + c.val))
    (hb : ∀ (r : Fin 1) (c : Fin 256), b (ix2 r c) = gb (1024 * k + 256 * q + c.val)) (r : Fin 64) (y : Fin 256) :
    k0_pay5 w a b x (ix2 r y) = hval (gx r (1024 * k + 256 * q + y.val)) (ga r (1024 * k + 256 * q + y.val)) (gb (1024 * k + 256 * q + y.val)) (gw r (1024 * k + 256 * q + y.val)) := by
  unfold hval
  refine Eq.trans (b := ?_) ?_ ?_
  rotate_left
  · pointwise [k0_pay1, k0_pay2, k0_pay3, k0_pay4, k0_pay5, k0_pay6, k0_pay7]
    simp only [hx, ha, hw, hb]
    rfl
  · rfl

theorem payK_at0 (gw : Fin 64 → ℕ → BitVec 32) {k q : ℕ} {w : Vec Ideal S1x64x256 .i32}
    (hw : ∀ (z : Fin 1) (r : Fin 64) (x : Fin 256), w (ix3 z r x) = gw r (1024 * k + 256 * q + x.val)) (r : Fin 64) (y : Fin 256) :
    k0_pay7 (k0_pay6 w) (ix2 r y) = kval (gw r (1024 * k + 256 * q + y.val)) := by
  unfold kval
  pointwise [k0_pay1, k0_pay2, k0_pay3, k0_pay4, k0_pay5, k0_pay6, k0_pay7]
  simp only [hw]

theorem payH_at1 (gx ga : Fin 64 → ℕ → EReal) (gw : Fin 64 → ℕ → BitVec 32) (gb : ℕ → EReal) {k q : ℕ}
    {x a : Vec Ideal S1x64x256 .bf16} {b : Vec Ideal S1x256 .f32} {w : Vec Ideal S1x64x256 .i32}
    (hx : ∀ (z : Fin 1) (r : Fin 64) (c : Fin 256), x (ix3 z r c) = gx r (1024 * k + 256 * q + c.val))
    (ha : ∀ (z : Fin 1) (r : Fin 64) (c : Fin 256), a (ix3 z r c) = ga r (1024 * k + 256 * q + c.val))
    (hw : ∀ (z : Fin 1) (r : Fin 64) (c : Fin 256), w (ix3 z r c) = gw r (1024 * k + 256 * q + c.val))
    (hb : ∀ (r : Fin 1) (c : Fin 256), b (ix2 r c) = gb (1024 * k + 256 * q + c.val)) (z : Fin 1) (r : Fin 64) (y : Fin 256) :
    k0_pay11 w a b x (ix3 z r y) = hval (gx r (1024 * k + 256 * q + y.val)) (ga r (1024 * k + 256 * q + y.val)) (gb (1024 * k + 256 * q + y.val)) (gw r (1024 * k + 256 * q + y.val)) := by
  unfold hval
  refine Eq.trans (b := ?_) ?_ ?_
  rotate_left
  · pointwise [k0_pay9, k0_pay10, k0_pay11, k0_pay12, k0_pay13, k0_pay14]
    simp only [hx, ha, hw, hb]
    rfl
  · rfl

theorem payY_at1 (gx ga : Fin 64 → ℕ → EReal) (gw : Fin 64 → ℕ → BitVec 32) (gb : ℕ → EReal) {k q : ℕ}
    {x a : Vec Ideal S1x64x256 .bf16} {b : Vec Ideal S1x256 .f32} {w : Vec Ideal S1x64x256 .i32}
    (hx : ∀ (z : Fin 1) (r : Fin 64) (c : Fin 256), x (ix3 z r c) = gx r (1024 * k + 256 * q + c.val))
    (ha : ∀ (z : Fin 1) (r : Fin 64) (c : Fin 256), a (ix3 z r c) = ga r (1024 * k + 256 * q + c.val))
    (hw : ∀ (z : Fin 1) (r : Fin 64) (c : Fin 256), w (ix3 z r c) = gw r (1024 * k + 256 * q + c.val))
    (hb : ∀ (r : Fin 1) (c : Fin 256), b (ix2 r c) = gb (1024 * k + 256 * q + c.val)) (r : Fin 64) (y : Fin 256) :
    k0_pay13 (k0_pay12 w a b x) (ix2 r y) = hval (gx r (1024 * k + 256 * q + y.val)) (ga r (1024 * k + 256 * q + y.val)) (gb (1024 * k + 256 * q + y.val)) (gw r (1024 * k + 256 * q + y.val)) := by
  unfold hval
  refine Eq.trans (b := ?_) ?_ ?_
  rotate_left
  · pointwise [k0_pay9, k0_pay10, k0_pay11, k0_pay12, k0_pay13, k0_pay14]
    simp only [hx, ha, hw, hb]
    rfl
  · rfl

theorem payK_at1 (gw : Fin 64 → ℕ → BitVec 32) {k q : ℕ} {w : Vec Ideal S1x64x256 .i32}
    (hw : ∀ (z : Fin 1) (r : Fin 64) (x : Fin 256), w (ix3 z r x) = gw r (1024 * k + 256 * q + x.val)) (r : Fin 64) (y : Fin 256) :
    k0_pay14 (F := Ideal) (k0_pay9 w) (ix2 r y) = kval (gw r (1024 * k + 256 * q + y.val)) := by
  unfold kval
  pointwise [k0_pay9, k0_pay10, k0_pay11, k0_pay12, k0_pay13, k0_pay14]
  simp only [hw]

theorem payH_at2 (gx ga : Fin 64 → ℕ → EReal) (gw : Fin 64 → ℕ → BitVec 32) (gb : ℕ → EReal) {k q : ℕ}
    {x a : Vec Ideal S1x64x256 .bf16} {b : Vec Ideal S1x256 .f32} {w : Vec Ideal S1x64x256 .i32}
    (hx : ∀ (z : Fin 1) (r : Fin 64) (c : Fin 256), x (ix3 z r c) = gx r (1024 * k + 256 * q + c.val))
    (ha : ∀ (z : Fin 1) (r : Fin 64) (c : Fin 256), a (ix3 z r c) = ga r (1024 * k + 256 * q + c.val))
    (hw : ∀ (z : Fin 1) (r : Fin 64) (c : Fin 256), w (ix3 z r c) = gw r (1024 * k + 256 * q + c.val))
    (hb : ∀ (r : Fin 1) (c : Fin 256), b (ix2 r c) = gb (1024 * k + 256 * q + c.val)) (z : Fin 1) (r : Fin 64) (y : Fin 256) :
    k0_pay20 (k0_pay17 x) (k0_pay18 w a b) (ix3 z r y) = hval (gx r (1024 * k + 256 * q + y.val)) (ga r (1024 * k + 256 * q + y.val)) (gb (1024 * k + 256 * q + y.val)) (gw r (1024 * k + 256 * q + y.val)) := by
  unfold hval
  refine Eq.trans (b := ?_) ?_ ?_
  rotate_left
  · pointwise [k0_pay16, k0_pay17, k0_pay18, k0_pay19, k0_pay20, k0_pay21, k0_pay22, k0_pay23]
    simp only [hx, ha, hw, hb]
    rfl
  · rfl

theorem payY_at2 (gx ga : Fin 64 → ℕ → EReal) (gw : Fin 64 → ℕ → BitVec 32) (gb : ℕ → EReal) {k q : ℕ}
    {x a : Vec Ideal S1x64x256 .bf16} {b : Vec Ideal S1x256 .f32} {w : Vec Ideal S1x64x256 .i32}
    (hx : ∀ (z : Fin 1) (r : Fin 64) (c : Fin 256), x (ix3 z r c) = gx r (1024 * k + 256 * q + c.val))
    (ha : ∀ (z : Fin 1) (r : Fin 64) (c : Fin 256), a (ix3 z r c) = ga r (1024 * k + 256 * q + c.val))
    (hw : ∀ (z : Fin 1) (r : Fin 64) (c : Fin 256), w (ix3 z r c) = gw r (1024 * k + 256 * q + c.val))
    (hb : ∀ (r : Fin 1) (c : Fin 256), b (ix2 r c) = gb (1024 * k + 256 * q + c.val)) (r : Fin 64) (y : Fin 256) :
    k0_pay22 (k0_pay17 x) (k0_pay18 w a b) (ix2 r y) = hval (gx r (1024 * k + 256 * q + y.val)) (ga r (1024 * k + 256 * q + y.val)) (gb (1024 * k + 256 * q + y.val)) (gw r (1024 * k + 256 * q + y.val)) := by
  unfold hval
  refine Eq.trans (b := ?_) ?_ ?_
  rotate_left
  · pointwise [k0_pay16, k0_pay17, k0_pay18, k0_pay19, k0_pay20, k0_pay21, k0_pay22, k0_pay23]
    simp only [hx, ha, hw, hb]
    rfl
  · rfl

theorem payK_at2 (gw : Fin 64 → ℕ → BitVec 32) {k q : ℕ} {w : Vec Ideal S1x64x256 .i32}
    (hw : ∀ (z : Fin 1) (r : Fin 64) (x : Fin 256), w (ix3 z r x) = gw r (1024 * k + 256 * q + x.val)) (r : Fin 64) (y : Fin 256) :
    k0_pay23 (F := Ideal) (k0_pay16 w) (ix2 r y) = kval (gw r (1024 * k + 256 * q + y.val)) := by
  unfold kval
  pointwise [k0_pay16, k0_pay17, k0_pay18, k0_pay19, k0_pay20, k0_pay21, k0_pay22, k0_pay23]
  simp only [hw]

theorem payH_at3 (gx ga : Fin 64 → ℕ → EReal) (gw : Fin 64 → ℕ → BitVec 32) (gb : ℕ → EReal) {k q : ℕ}
    {x a : Vec Ideal S1x64x256 .bf16} {b : Vec Ideal S1x256 .f32} {w : Vec Ideal S1x64x256 .i32}
    (hx : ∀ (z : Fin 1) (r : Fin 64) (c : Fin 256), x (ix3 z r c) = gx r (1024 * k + 256 * q + c.val))
    (ha : ∀ (z : Fin 1) (r : Fin 64) (c : Fin 256), a (ix3 z r c) = ga r (1024 * k + 256 * q + c.val))
    (hw : ∀ (z : Fin 1) (r : Fin 64) (c : Fin 256), w (ix3 z r c) = gw r (1024 * k + 256 * q + c.val))
    (hb : ∀ (r : Fin 1) (c : Fin 256), b (ix2 r c) = gb (1024 * k + 256 * q + c.val)) (z : Fin 1) (r : Fin 64) (y : Fin 256) :
    k0_pay53 (k0_pay25 w) (k0_pay26 a b) (Scalar.ofBits .f32 0x3F8E38E4#32) x (ix3 z r y) = hval (gx r (1024 * k + 256 * q + y.val)) (ga r (1024 * k + 256 * q + y.val)) (gb (1024 * k + 256 * q + y.val)) (gw r (1024 * k + 256 * q + y.val)) := by
  unfold hval
  refine Eq.trans (b := ?_) ?_ ?_
  rotate_left
  · pointwise [k0_pay25, k0_pay26, k0_pay52, k0_pay53, k0_pay54, k0_pay55, k0_pay56]
    simp only [hx, ha, hw, hb]
    rfl
  · rfl

theorem payY_at3 (gx ga : Fin 64 → ℕ → EReal) (gw : Fin 64 → ℕ → BitVec 32) (gb : ℕ → EReal) {k q : ℕ}
    {x a : Vec Ideal S1x64x256 .bf16} {b : Vec Ideal S1x256 .f32} {w : Vec Ideal S1x64x256 .i32}
    (hx : ∀ (z : Fin 1) (r : Fin 64) (c : Fin 256), x (ix3 z r c) = gx r (1024 * k + 256 * q + c.val))
    (ha : ∀ (z : Fin 1) (r : Fin 64) (c : Fin 256), a (ix3 z r c) = ga r (1024 * k + 256 * q + c.val))
    (hw : ∀ (z : Fin 1) (r : Fin 64) (c : Fin 256), w (ix3 z r c) = gw r (1024 * k + 256 * q + c.val))
    (hb : ∀ (r : Fin 1) (c : Fin 256), b (ix2 r c) = gb (1024 * k + 256 * q + c.val)) (r : Fin 64) (y : Fin 256) :
    k0_pay55 (k0_pay25 w) (k0_pay26 a b) (Scalar.ofBits .f32 0x3F8E38E4#32) x (ix2 r y) = hval (gx r (1024 * k + 256 * q + y.val)) (ga r (1024 * k + 256 * q + y.val)) (gb (1024 * k + 256 * q + y.val)) (gw r (1024 * k + 256 * q + y.val)) := by
  unfold hval
  refine Eq.trans (b := ?_) ?_ ?_
  rotate_left
  · pointwise [k0_pay25, k0_pay26, k0_pay52, k0_pay53, k0_pay54, k0_pay55, k0_pay56]
    simp only [hx, ha, hw, hb]
    rfl
  · rfl

theorem payK_at3 (gw : Fin 64 → ℕ → BitVec 32) {k q : ℕ} {w : Vec Ideal S1x64x256 .i32}
    (hw : ∀ (z : Fin 1) (r : Fin 64) (x : Fin 256), w (ix3 z r x) = gw r (1024 * k + 256 * q + x.val)) (r : Fin 64) (y : Fin 256) :
    k0_pay56 (F := Ideal) (k0_pay25 w) (ix2 r y) = kval (gw r (1024 * k + 256 * q + y.val)) := by
  unfold kval
  pointwise [k0_pay25, k0_pay26, k0_pay52, k0_pay53, k0_pay54, k0_pay55, k0_pay56]
  simp only [hw]

/-- The carried sums a trip hands on. -/
theorem yield1_at (acc : FVec Ideal S64x128 .f32) (gx ga : Fin 64 → ℕ → EReal) (gw : Fin 64 → ℕ → BitVec 32) (gb : ℕ → EReal) {k : ℕ}
    {x0 x1 x2 x3 a0 a1 a2 a3 : Vec Ideal S1x64x256 .bf16} {b0 b1 b2 b3 : Vec Ideal S1x256 .f32} {w0 w1 w2 w3 : Vec Ideal S1x64x256 .i32}
    (hx0 : ∀ (z : Fin 1) (r : Fin 64) (x : Fin 256), x0 (ix3 z r x) = gx r (1024 * k + 256 * 0 + x.val)) (hx1 : ∀ (z : Fin 1) (r : Fin 64) (x : Fin 256), x1 (ix3 z r x) = gx r (1024 * k + 256 * 1 + x.val)) (hx2 : ∀ (z : Fin 1) (r : Fin 64) (x : Fin 256), x2 (ix3 z r x) = gx r (1024 * k + 256 * 2 + x.val)) (hx3 : ∀ (z : Fin 1) (r : Fin 64) (x : Fin 256), x3 (ix3 z r x) = gx r (1024 * k + 256 * 3 + x.val))
    (ha0 : ∀ (z : Fin 1) (r : Fin 64) (x : Fin 256), a0 (ix3 z r x) = ga r (1024 * k + 256 * 0 + x.val)) (ha1 : ∀ (z : Fin 1) (r : Fin 64) (x : Fin 256), a1 (ix3 z r x) = ga r (1024 * k + 256 * 1 + x.val)) (ha2 : ∀ (z : Fin 1) (r : Fin 64) (x : Fin 256), a2 (ix3 z r x) = ga r (1024 * k + 256 * 2 + x.val)) (ha3 : ∀ (z : Fin 1) (r : Fin 64) (x : Fin 256), a3 (ix3 z r x) = ga r (1024 * k + 256 * 3 + x.val))
    (hw0 : ∀ (z : Fin 1) (r : Fin 64) (x : Fin 256), w0 (ix3 z r x) = gw r (1024 * k + 256 * 0 + x.val)) (hw1 : ∀ (z : Fin 1) (r : Fin 64) (x : Fin 256), w1 (ix3 z r x) = gw r (1024 * k + 256 * 1 + x.val)) (hw2 : ∀ (z : Fin 1) (r : Fin 64) (x : Fin 256), w2 (ix3 z r x) = gw r (1024 * k + 256 * 2 + x.val)) (hw3 : ∀ (z : Fin 1) (r : Fin 64) (x : Fin 256), w3 (ix3 z r x) = gw r (1024 * k + 256 * 3 + x.val))
    (hb0 : ∀ (r : Fin 1) (x : Fin 256), b0 (ix2 r x) = gb (1024 * k + 256 * 0 + x.val)) (hb1 : ∀ (r : Fin 1) (x : Fin 256), b1 (ix2 r x) = gb (1024 * k + 256 * 1 + x.val)) (hb2 : ∀ (r : Fin 1) (x : Fin 256), b2 (ix2 r x) = gb (1024 * k + 256 * 2 + x.val)) (hb3 : ∀ (r : Fin 1) (x : Fin 256), b3 (ix2 r x) = gb (1024 * k + 256 * 3 + x.val))
    (T : Fin 64 → ℕ → EReal) (hT : T = fun r n => hval (gx r n) (ga r n) (gb n) (gw r n)) (r : Fin 64) (l : Fin 128) :
    k0_pay57 (k0_pay24 (k0_pay15 (k0_pay8 acc (k0_pay4 w0 a0 b0 x0)) (k0_pay12 w1 a1 b1 x1)) (k0_pay17 x2) (k0_pay18 w2 a2 b2)) (k0_pay25 w3) (k0_pay26 a3 b3) (Scalar.ofBits .f32 0x3F8E38E4#32) x3 (ix2 r l) = acc (ix2 r l)
      + (T r (1024 * k + 256 * 0 + l.val) + T r (1024 * k + 256 * 0 + (128 + l.val)))
      + (T r (1024 * k + 256 * 1 + l.val) + T r (1024 * k + 256 * 1 + (128 + l.val)))
      + (T r (1024 * k + 256 * 2 + l.val) + T r (1024 * k + 256 * 2 + (128 + l.val)))
      + (T r (1024 * k + 256 * 3 + l.val) + T r (1024 * k + 256 * 3 + (128 + l.val))) := by
  subst hT
  unfold hval
  refine Eq.trans (b := ?_) ?_ ?_
  rotate_left
  · pointwise [k0_pay8, k0_pay4, k0_pay2, k0_pay1, k0_pay15, k0_pay12, k0_pay10, k0_pay9, k0_pay24, k0_pay21, k0_pay19, k0_pay17, k0_pay18, k0_pay16, k0_pay57, k0_pay54, k0_pay52, k0_pay25, k0_pay26]
    simp only [hx0, hx1, hx2, hx3, ha0, ha1, ha2, ha3, hw0, hw1, hw2, hw3, hb0, hb1, hb2, hb3]
    rfl
  · rfl

set_option maxHeartbeats 4000000 in
/-- One trip: the three buffers from their state before trip `k` to their state after, the carried sums likewise. -/
theorem step1 (c : Dev nD) (i : grid0.Coords) (arg1 : Memref sig .tc .vmem S1x64x8192 .bf16) (harg1 : arg1.IsWhole) (arg2 : Memref sig .tc .vmem S1x64x8192 .bf16) (harg2 : arg2.IsWhole) (arg3 : Memref sig .tc .vmem S1x8192 .f32) (harg3 : arg3.IsWhole) (arg4 : Memref sig .tc .vmem S1x64x8192 .i32) (harg4 : arg4.IsWhole) (arg5 : Memref sig .tc .vmem S1x8192 .f32) (harg5 : arg5.IsWhole) (arg6 : Memref sig .tc .vmem S1x8192 .f32) (harg6 : arg6.IsWhole) (arg7 : Memref sig .tc .vmem S1x64x8192 .fp8e4m3) (harg7 : arg7.IsWhole) (arg8 : Memref sig .tc .vmem S1x2048 .f32) (harg8 : arg8.IsWhole) (arg9 : Memref sig .tc .vmem S1x64x1024 .i8) (harg9 : arg9.IsWhole) (arg10 : Memref sig .tc .vmem S1x2048 .f32) (harg10 : arg10.IsWhole) (arg11 : Memref sig .tc .vmem S1x2048 .f32) (harg11 : arg11.IsWhole) (arg12 : Memref sig .tc .vmem S1x64x8192 .bf16) (harg12 : arg12.IsWhole) (arg13 : Memref sig .tc .vmem S64x8192 .f32) (harg13 : arg13.IsWhole) (arg14 : Memref sig .tc .vmem S512x1024 .bf16) (harg14 : arg14.IsWhole) (arg15 : Memref sig .tc .vmem S1024x128 .bf16) (harg15 : arg15.IsWhole)
    (g1 : BufTy.Contents (Elt Ideal) arg1.view.ty) (g2 : BufTy.Contents (Elt Ideal) arg2.view.ty)
    (g3 : BufTy.Contents (Elt Ideal) arg3.view.ty) (g4 : BufTy.Contents (Elt Ideal) arg4.view.ty)
    (G12 : BufTy.Contents (Elt Ideal) arg12.view.ty) (G13 : BufTy.Contents (Elt Ideal) arg13.view.ty)
    (G14 : BufTy.Contents (Elt Ideal) arg14.view.ty) (k : Fin k0_t1_loop.trips) (E : Set ℕ) :
    iprop((arg1.view.loc (c : Thread nD τ) ↦[arg1.view.set]{fullShare} g1) ∗ (arg2.view.loc (c : Thread nD τ) ↦[arg2.view.set]{fullShare} g2) ∗ (arg3.view.loc (c : Thread nD τ) ↦[arg3.view.set]{fullShare} g3) ∗ (arg4.view.loc (c : Thread nD τ) ↦[arg4.view.set]{fullShare} g4) ∗ (arg12.view.loc (c : Thread nD τ) ↦[arg12.view.set]{fullShare} mixC3 harg12 (VH g1 g2 g3 g4) G12 k.val) ∗ (arg13.view.loc (c : Thread nD τ) ↦[arg13.view.set]{fullShare} mixC harg13 (VH g1 g2 g3 g4) G13 k.val) ∗ (arg14.view.loc (c : Thread nD τ) ↦[arg14.view.set]{fullShare} mixK harg14 (VK g4) G14 k.val))
      ⊢ (wp frame (wpE (defs₀ (F := Ideal)) Variants.none (c : Thread nD τ) none) E (k0_t1_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 k (accS (k0_pay51 (F := Ideal)) (VH g1 g2 g3 g4) k.val))
          (fun yld => iprop(((arg1.view.loc (c : Thread nD τ) ↦[arg1.view.set]{fullShare} g1) ∗ (arg2.view.loc (c : Thread nD τ) ↦[arg2.view.set]{fullShare} g2) ∗ (arg3.view.loc (c : Thread nD τ) ↦[arg3.view.set]{fullShare} g3) ∗ (arg4.view.loc (c : Thread nD τ) ↦[arg4.view.set]{fullShare} g4) ∗ (arg12.view.loc (c : Thread nD τ) ↦[arg12.view.set]{fullShare} mixC3 harg12 (VH g1 g2 g3 g4) G12 (k.val + 1)) ∗ (arg13.view.loc (c : Thread nD τ) ↦[arg13.view.set]{fullShare} mixC harg13 (VH g1 g2 g3 g4) G13 (k.val + 1)) ∗ (arg14.view.loc (c : Thread nD τ) ↦[arg14.view.set]{fullShare} mixK harg14 (VK g4) G14 (k.val + 1)))
            ∗ ⌜yld = accS (k0_pay51 (F := Ideal)) (VH g1 g2 g3 g4) (k.val + 1)⌝)) : sProp 𝕄) := by
  have hk : k.val < 8 := Nat.lt_of_lt_of_le k.isLt k0_t1_abs.2.1
  have q0 := k0_off1_eq k 0
  have p0 := k0_off2_eq k 0
  have s0 := k0_off3_eq k 0
  have t0 := k0_off4_eq k
  have q1 := k0_off1_eq k 1
  have p1 := k0_off2_eq k 1
  have s1 := k0_off3_eq k 1
  have t1 := k0_off5_eq k
  have q2 := k0_off1_eq k 2
  have p2 := k0_off2_eq k 2
  have s2 := k0_off3_eq k 2
  have t2 := k0_off6_eq k
  have q3 := k0_off1_eq k 3
  have p3 := k0_off2_eq k 3
  have s3 := k0_off3_eq k 3
  have t3 := k0_off7_eq k
  unfold k0_t1_body
  simp only [k0_part1_eq_skeleton, k0_part2_eq_skeleton, k0_part3_eq_skeleton, k0_part4_eq_skeleton]
  generalize hg12 : mixC3 harg12 (VH g1 g2 g3 g4) G12 k.val = f12
  generalize hg13 : mixC harg13 (VH g1 g2 g3 g4) G13 k.val = f13
  generalize hg14 : mixK harg14 (VK g4) G14 k.val = f14
  generalize hacc : accS (k0_pay51 (F := Ideal)) (VH g1 g2 g3 g4) k.val = acc
  iintro ⟨H1, H2, H3, H4, H12, H13, H14⟩
  sl_exec
  sl_step
  sl_unfold_words
  subst hg12
  subst hg13
  subst hg14
  subst hacc
  have x0 := fun (z : Fin 1) (r : Fin 64) (x : Fin 256) => (readAt_cols3 arg1.view g1 (k0_off1_inb k 0) q0 z r x)
  have a0 := fun (z : Fin 1) (r : Fin 64) (x : Fin 256) => (readAt_cols3 arg2.view g2 (k0_off1_inb k 0) q0 z r x)
  have w0 := fun (z : Fin 1) (r : Fin 64) (x : Fin 256) => (readAt_cols3 arg4.view g4 (k0_off1_inb k 0) q0 z r x)
  have b0 := fun (r : Fin 1) (x : Fin 256) => (readAt_row arg3.view g3 (k0_off2_inb k 0) p0 r x)
  have x1 := fun (z : Fin 1) (r : Fin 64) (x : Fin 256) => (readAt_cols3 arg1.view g1 (k0_off1_inb k 1) q1 z r x)
  have a1 := fun (z : Fin 1) (r : Fin 64) (x : Fin 256) => (readAt_cols3 arg2.view g2 (k0_off1_inb k 1) q1 z r x)
  have w1 := fun (z : Fin 1) (r : Fin 64) (x : Fin 256) => (readAt_cols3 arg4.view g4 (k0_off1_inb k 1) q1 z r x)
  have b1 := fun (r : Fin 1) (x : Fin 256) => (readAt_row arg3.view g3 (k0_off2_inb k 1) p1 r x)
  have x2 := fun (z : Fin 1) (r : Fin 64) (x : Fin 256) => (readAt_cols3 arg1.view g1 (k0_off1_inb k 2) q2 z r x)
  have a2 := fun (z : Fin 1) (r : Fin 64) (x : Fin 256) => (readAt_cols3 arg2.view g2 (k0_off1_inb k 2) q2 z r x)
  have w2 := fun (z : Fin 1) (r : Fin 64) (x : Fin 256) => (readAt_cols3 arg4.view g4 (k0_off1_inb k 2) q2 z r x)
  have b2 := fun (r : Fin 1) (x : Fin 256) => (readAt_row arg3.view g3 (k0_off2_inb k 2) p2 r x)
  have x3 := fun (z : Fin 1) (r : Fin 64) (x : Fin 256) => (readAt_cols3 arg1.view g1 (k0_off1_inb k 3) q3 z r x)
  have a3 := fun (z : Fin 1) (r : Fin 64) (x : Fin 256) => (readAt_cols3 arg2.view g2 (k0_off1_inb k 3) q3 z r x)
  have w3 := fun (z : Fin 1) (r : Fin 64) (x : Fin 256) => (readAt_cols3 arg4.view g4 (k0_off1_inb k 3) q3 z r x)
  have b3 := fun (r : Fin 1) (x : Fin 256) => (readAt_row arg3.view g3 (k0_off2_inb k 3) p3 r x)
  rw [← mixC3_succ harg12 (VH g1 g2 g3 g4) G12 _ k.val (fun z r j => read_trip3 arg12.view _ hk (k0_off1_inb k 0) (k0_off1_inb k 1) (k0_off1_inb k 2) (k0_off1_inb k 3) q0 q1 q2 q3 _ _ _ _ (VH g1 g2 g3 g4) ?_ ?_ ?_ ?_ z r j),
    ← mixC_succ harg13 (VH g1 g2 g3 g4) G13 _ k.val (fun r j => read_trip arg13.view _ hk (k0_off3_inb k 0) (k0_off3_inb k 1) (k0_off3_inb k 2) (k0_off3_inb k 3) s0 s1 s2 s3 _ _ _ _ (VH g1 g2 g3 g4) ?_ ?_ ?_ ?_ r j),
    ← mixK_succ harg14 (VK g4) G14 _ k.val (fun r j => read_tripK arg14.view _ hk (k0_off4_inb k) (k0_off5_inb k) (k0_off6_inb k) (k0_off7_inb k) t0 t1 t2 t3 _ _ _ _ (VK g4) ?_ ?_ ?_ ?_ r j)]
  isplitl [H1 H2 H3 H4 H12 H13 H14]
  · isplitl [H1]
    · iexact H1
    isplitl [H2]
    · iexact H2
    isplitl [H3]
    · iexact H3
    isplitl [H4]
    · iexact H4
    isplitl [H12]
    · iexact H12
    isplitl [H13]
    · iexact H13
    iexact H14
  · ipureintro
    refine accS_succ _ _ _ _ fun r l => ?_
    exact yield1_at _ (fun r n => arg1.view.read (Elt Ideal) g1 (ix3 0 r (col n))) (fun r n => arg2.view.read (Elt Ideal) g2 (ix3 0 r (col n))) (fun r n => arg4.view.read (Elt Ideal) g4 (ix3 0 r (col n))) (fun n => arg3.view.read (Elt Ideal) g3 (ix2 0 (col n))) x0 x1 x2 x3 a0 a1 a2 a3 w0 w1 w2 w3 b0 b1 b2 b3 _ rfl r l
  · exact fun r x => payK_at0 (fun r n => arg4.view.read (Elt Ideal) g4 (ix3 0 r (col n))) w0 r x
  · exact fun r x => payK_at1 (fun r n => arg4.view.read (Elt Ideal) g4 (ix3 0 r (col n))) w1 r x
  · exact fun r x => payK_at2 (fun r n => arg4.view.read (Elt Ideal) g4 (ix3 0 r (col n))) w2 r x
  · exact fun r x => payK_at3 (fun r n => arg4.view.read (Elt Ideal) g4 (ix3 0 r (col n))) w3 r x
  · exact fun r x => payY_at0 (fun r n => arg1.view.read (Elt Ideal) g1 (ix3 0 r (col n))) (fun r n => arg2.view.read (Elt Ideal) g2 (ix3 0 r (col n))) (fun r n => arg4.view.read (Elt Ideal) g4 (ix3 0 r (col n))) (fun n => arg3.view.read (Elt Ideal) g3 (ix2 0 (col n))) x0 a0 w0 b0 r x
  · exact fun r x => payY_at1 (fun r n => arg1.view.read (Elt Ideal) g1 (ix3 0 r (col n))) (fun r n => arg2.view.read (Elt Ideal) g2 (ix3 0 r (col n))) (fun r n => arg4.view.read (Elt Ideal) g4 (ix3 0 r (col n))) (fun n => arg3.view.read (Elt Ideal) g3 (ix2 0 (col n))) x1 a1 w1 b1 r x
  · exact fun r x => payY_at2 (fun r n => arg1.view.read (Elt Ideal) g1 (ix3 0 r (col n))) (fun r n => arg2.view.read (Elt Ideal) g2 (ix3 0 r (col n))) (fun r n => arg4.view.read (Elt Ideal) g4 (ix3 0 r (col n))) (fun n => arg3.view.read (Elt Ideal) g3 (ix2 0 (col n))) x2 a2 w2 b2 r x
  · exact fun r x => payY_at3 (fun r n => arg1.view.read (Elt Ideal) g1 (ix3 0 r (col n))) (fun r n => arg2.view.read (Elt Ideal) g2 (ix3 0 r (col n))) (fun r n => arg4.view.read (Elt Ideal) g4 (ix3 0 r (col n))) (fun n => arg3.view.read (Elt Ideal) g3 (ix2 0 (col n))) x3 a3 w3 b3 r x
  · exact fun z r x => payH_at0 (fun r n => arg1.view.read (Elt Ideal) g1 (ix3 0 r (col n))) (fun r n => arg2.view.read (Elt Ideal) g2 (ix3 0 r (col n))) (fun r n => arg4.view.read (Elt Ideal) g4 (ix3 0 r (col n))) (fun n => arg3.view.read (Elt Ideal) g3 (ix2 0 (col n))) x0 a0 w0 b0 z r x
  · exact fun z r x => payH_at1 (fun r n => arg1.view.read (Elt Ideal) g1 (ix3 0 r (col n))) (fun r n => arg2.view.read (Elt Ideal) g2 (ix3 0 r (col n))) (fun r n => arg4.view.read (Elt Ideal) g4 (ix3 0 r (col n))) (fun n => arg3.view.read (Elt Ideal) g3 (ix2 0 (col n))) x1 a1 w1 b1 z r x
  · exact fun z r x => payH_at2 (fun r n => arg1.view.read (Elt Ideal) g1 (ix3 0 r (col n))) (fun r n => arg2.view.read (Elt Ideal) g2 (ix3 0 r (col n))) (fun r n => arg4.view.read (Elt Ideal) g4 (ix3 0 r (col n))) (fun n => arg3.view.read (Elt Ideal) g3 (ix2 0 (col n))) x2 a2 w2 b2 z r x
  · exact fun z r x => payH_at3 (fun r n => arg1.view.read (Elt Ideal) g1 (ix3 0 r (col n))) (fun r n => arg2.view.read (Elt Ideal) g2 (ix3 0 r (col n))) (fun r n => arg4.view.read (Elt Ideal) g4 (ix3 0 r (col n))) (fun n => arg3.view.read (Elt Ideal) g3 (ix2 0 (col n))) x3 a3 w3 b3 z r x

/-- The loop's invariant as the executor reads it. -/
@[reducible] def inv1 (c : Dev nD) (arg1 : Memref sig .tc .vmem S1x64x8192 .bf16) (harg1 : arg1.IsWhole) (arg2 : Memref sig .tc .vmem S1x64x8192 .bf16) (harg2 : arg2.IsWhole) (arg3 : Memref sig .tc .vmem S1x8192 .f32) (harg3 : arg3.IsWhole) (arg4 : Memref sig .tc .vmem S1x64x8192 .i32) (harg4 : arg4.IsWhole) (arg12 : Memref sig .tc .vmem S1x64x8192 .bf16) (harg12 : arg12.IsWhole) (arg13 : Memref sig .tc .vmem S64x8192 .f32) (harg13 : arg13.IsWhole) (arg14 : Memref sig .tc .vmem S512x1024 .bf16) (harg14 : arg14.IsWhole)
    (g1 : BufTy.Contents (Elt Ideal) arg1.view.ty) (g2 : BufTy.Contents (Elt Ideal) arg2.view.ty)
    (g3 : BufTy.Contents (Elt Ideal) arg3.view.ty) (g4 : BufTy.Contents (Elt Ideal) arg4.view.ty)
    (G12 : BufTy.Contents (Elt Ideal) arg12.view.ty) (G13 : BufTy.Contents (Elt Ideal) arg13.view.ty)
    (G14 : BufTy.Contents (Elt Ideal) arg14.view.ty) (k : ℕ) (acc : FVec Ideal S64x128 .f32) : sProp 𝕄 :=
  iprop((arg1.view.loc (c : Thread nD τ) ↦[arg1.view.set]{fullShare} g1) ∗ (arg2.view.loc (c : Thread nD τ) ↦[arg2.view.set]{fullShare} g2) ∗ (arg3.view.loc (c : Thread nD τ) ↦[arg3.view.set]{fullShare} g3) ∗ (arg4.view.loc (c : Thread nD τ) ↦[arg4.view.set]{fullShare} g4)
    ∗ (∃ f, (arg12.view.loc (c : Thread nD τ) ↦[arg12.view.set]{fullShare} f) ∗ ⌜f = Nat.casesOn (motive := fun _ => _) k G12 fun k => mixC3 harg12 (VH g1 g2 g3 g4) G12 (k + 1)⌝) ∗ (∃ f, (arg13.view.loc (c : Thread nD τ) ↦[arg13.view.set]{fullShare} f) ∗ ⌜f = Nat.casesOn (motive := fun _ => _) k G13 fun k => mixC harg13 (VH g1 g2 g3 g4) G13 (k + 1)⌝)
    ∗ (∃ f, (arg14.view.loc (c : Thread nD τ) ↦[arg14.view.set]{fullShare} f) ∗ ⌜f = Nat.casesOn (motive := fun _ => _) k G14 fun k => mixK harg14 (VK g4) G14 (k + 1)⌝) ∗ ⌜acc = accS (k0_pay51 (F := Ideal)) (VH g1 g2 g3 g4) k⌝)

set_option warn.classDefReducibility false in
@[sl_loop]
def loop1 (c : Dev nD) (i : grid0.Coords) (arg1 : Memref sig .tc .vmem S1x64x8192 .bf16) (harg1 : arg1.IsWhole) (arg2 : Memref sig .tc .vmem S1x64x8192 .bf16) (harg2 : arg2.IsWhole) (arg3 : Memref sig .tc .vmem S1x8192 .f32) (harg3 : arg3.IsWhole) (arg4 : Memref sig .tc .vmem S1x64x8192 .i32) (harg4 : arg4.IsWhole) (arg5 : Memref sig .tc .vmem S1x8192 .f32) (harg5 : arg5.IsWhole) (arg6 : Memref sig .tc .vmem S1x8192 .f32) (harg6 : arg6.IsWhole) (arg7 : Memref sig .tc .vmem S1x64x8192 .fp8e4m3) (harg7 : arg7.IsWhole) (arg8 : Memref sig .tc .vmem S1x2048 .f32) (harg8 : arg8.IsWhole) (arg9 : Memref sig .tc .vmem S1x64x1024 .i8) (harg9 : arg9.IsWhole) (arg10 : Memref sig .tc .vmem S1x2048 .f32) (harg10 : arg10.IsWhole) (arg11 : Memref sig .tc .vmem S1x2048 .f32) (harg11 : arg11.IsWhole) (arg12 : Memref sig .tc .vmem S1x64x8192 .bf16) (harg12 : arg12.IsWhole) (arg13 : Memref sig .tc .vmem S64x8192 .f32) (harg13 : arg13.IsWhole) (arg14 : Memref sig .tc .vmem S512x1024 .bf16) (harg14 : arg14.IsWhole) (arg15 : Memref sig .tc .vmem S1024x128 .bf16) (harg15 : arg15.IsWhole)
    (g1 : BufTy.Contents (Elt Ideal) arg1.view.ty) (g2 : BufTy.Contents (Elt Ideal) arg2.view.ty)
    (g3 : BufTy.Contents (Elt Ideal) arg3.view.ty) (g4 : BufTy.Contents (Elt Ideal) arg4.view.ty)
    (G12 : BufTy.Contents (Elt Ideal) arg12.view.ty) (G13 : BufTy.Contents (Elt Ideal) arg13.view.ty)
    (G14 : BufTy.Contents (Elt Ideal) arg14.view.ty) (E : Set ℕ) :
    LoopInv (M := 𝕄) frame (wpE (defs₀ (F := Ideal)) Variants.none (c : Thread nD τ) none) E k0_t1_loop.lb k0_t1_loop.ub k0_t1_loop.st
      k0_t1_ok (k0_pay51 (F := Ideal)) (k0_t1_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15) where
  inv := inv1 c arg1 harg1 arg2 harg2 arg3 harg3 arg4 harg4 arg12 harg12 arg13 harg13 arg14 harg14 g1 g2 g3 g4 G12 G13 G14
  step k acc := by
    iintro ⟨H1, H2, H3, H4, ⟨%f12, H12, %hf12⟩, ⟨%f13, H13, %hf13⟩, ⟨%f14, H14, %hf14⟩, %ha⟩
    replace hf12 := hf12.trans (at0_eq (F := mixC3 harg12 _ _) rfl _)
    subst hf12
    replace hf13 := hf13.trans (at0_eq (F := mixC harg13 _ _) rfl _)
    subst hf13
    replace hf14 := hf14.trans (at0_eq (F := mixK harg14 _ _) rfl _)
    subst hf14
    subst ha
    iapply (wp_wand_r frame (wpE (defs₀ (F := Ideal)) Variants.none (c : Thread nD τ) none) E)
    isplitl [H1 H2 H3 H4 H12 H13 H14]
    · iapply step1 c i arg1 harg1 arg2 harg2 arg3 harg3 arg4 harg4 arg5 harg5 arg6 harg6 arg7 harg7 arg8 harg8 arg9 harg9 arg10 harg10 arg11 harg11 arg12 harg12 arg13 harg13 arg14 harg14 arg15 harg15 g1 g2 g3 g4 G12 G13 G14 k E
      isplitl [H1]
      · iexact H1
      isplitl [H2]
      · iexact H2
      isplitl [H3]
      · iexact H3
      isplitl [H4]
      · iexact H4
      isplitl [H12]
      · iexact H12
      isplitl [H13]
      · iexact H13
      iexact H14
    · iintro %y ⟨⟨H1, H2, H3, H4, H12, H13, H14⟩, %hy⟩
      subst hy
      isplitl [H1]
      · iexact H1
      isplitl [H2]
      · iexact H2
      isplitl [H3]
      · iexact H3
      isplitl [H4]
      · iexact H4
      isplitl [H12]
      · iexists _
        isplitl [H12]
        · iexact H12
        · ipureintro; rfl
      isplitl [H13]
      · iexists _
        isplitl [H13]
        · iexact H13
        · ipureintro; rfl
      isplitl [H14]
      · iexists _
        isplitl [H14]
        · iexact H14
        · ipureintro; rfl
      ipureintro; rfl

end Cert.KernelIdeal.KI

end
-- ==== Proof.KI.Rows.lean ====
/- One row of the kernel's block as functions of its lane: mean, reciprocal deviation, normalised row, scale and code; and
   the vector expressions between the loops, read at an index, as those functions. -/
module

public import proofs.«01_k».proof.Proof.KI.T1
public import Idealize.ShloMosaic.Lib.Pipeline.ValueKit.Acc

@[expose] public section

set_option maxRecDepth 16384

noncomputable section

namespace Cert.KernelIdeal.KI
open Idealize.ShloMosaic Idealize.ShloMosaic.TcCoe
open Cert.KernelIdeal Cert.KernelIdeal.Gen

/-- The sum over a row's 8192 lanes. -/
def ksum (T : ℕ → EReal) : EReal := ∑ n : Fin 8192, T n.val
/-- A row's mean. -/
def kmean (h : ℕ → EReal) : EReal := Ideal.div (ksum h) (Ideal.ofBits .f32 0x46000000#32)
/-- A row less its mean. -/
def kcen (h : ℕ → EReal) (n : ℕ) : EReal := h n - kmean h
/-- The reciprocal standard deviation of a row. -/
def krstd (h : ℕ → EReal) : EReal :=
  Ideal.rsqrt (Ideal.div (ksum fun n => kcen h n * kcen h n) (Ideal.ofBits .f32 0x46000000#32) + Ideal.ofBits .f32 0x3727C5AC#32)
/-- The normalised row. -/
def ky (h gm bt : ℕ → EReal) (n : ℕ) : EReal := kcen h n * krstd h * gm n + bt n
/-- The largest magnitude of a row. -/
def kamax (y : ℕ → EReal) : EReal := (Finset.univ : Finset (Fin 8192)).sup fun n => FloatOps.absf (F := Ideal) (φ := .f32) (y n.val)
/-- One step of the search for the exponent field of `v`. -/
def fstep (v : EReal) (f b : BitVec 32) : BitVec 32 :=
  if v < Ideal.ofBits .f32 (IntOp.shli .vector (IntOp.addi f b) 23#32) then f else IntOp.addi f b
/-- The exponent field of `v`, found by eight comparisons; 255 from `2^120` on. -/
def kfield (v : EReal) : BitVec 32 :=
  if v < Ideal.ofBits .f32 0x7B800000#32 then
    fstep v (fstep v (fstep v (fstep v (fstep v (fstep v (fstep v (fstep v 0#32 128#32) 64#32) 32#32) 16#32) 8#32) 4#32) 2#32) 1#32
  else 255#32
/-- The exponent of the row's scale, from its largest magnitude. -/
def kexp (a : EReal) : BitVec 32 :=
  Scalar.select (IntOp.ori
      (IntOp.ori (IntOp.cmpi CmpIPredicate.eq (kfield (a * Ideal.ofBits .f32 0x3B124925#32)) 0#32)
        (IntOp.cmpi CmpIPredicate.eq (kfield (a * Ideal.ofBits .f32 0x3B124925#32)) 255#32))
      (BitVec.ofBool (decide (a = 0)))) 0#32
    (IntOp.subi (kfield (a * Ideal.ofBits .f32 0x3B124925#32)) 126#32)
/-- The row's scale and its reciprocal, assembled from the exponent. -/
def kscale (a : EReal) : EReal := Ideal.ofBits .f32 (IntOp.shli .vector (IntOp.addi (kexp a) 127#32) 23#32)
def kinv (a : EReal) : EReal := Ideal.ofBits .f32 (IntOp.shli .vector (IntOp.subi 127#32 (kexp a)) 23#32)
/-- A code: the normalised entry over the scale, clipped. -/
def kcode (y : ℕ → EReal) (n : ℕ) : EReal :=
  min (Ideal.ofBits .f32 1138753536#32) (max (Ideal.ofBits .f32 3286237184#32) (y n * kinv (kamax y)))

/-! ## The carried lane sums and maxima, whole -/

theorem lanes_sum (T : ℕ → EReal) : ∑ l : Fin 128, ∑ b ∈ Finset.range 64, T (128 * b + l.val) = ksum T := by
  unfold ksum
  rw [Finset.sum_comm, Fin.sum_univ_eq_sum_range (fun n => T n) 8192]
  rw [show 8192 = 64 * 128 from rfl, Finset.sum_range_mul_split]
  exact Finset.sum_congr rfl fun b _ => (Fin.sum_univ_eq_sum_range (fun l => T (128 * b + l)) 128).trans
    (Finset.sum_congr rfl fun l _ => congrArg T (by omega))

theorem pay51_at (r : Fin 64) (l : Fin 128) : k0_pay51 (F := Ideal) (ix2 r l) = 0 := by pointwise [k0_pay51]

theorem sum_accS (T : Fin 64 → ℕ → EReal) {n : ℕ} (hn : n = 8) (r : Fin 64) :
    ∑ l : Fin 128, accS (k0_pay51 (F := Ideal)) T n (ix2 r l) = ksum (T r) := by
  subst hn
  simp only [accS_apply, pay51_at, zero_add]
  exact lanes_sum _

theorem absf_nonneg (x : EReal) : (0 : EReal) ≤ FloatOps.absf (F := Ideal) (φ := .f32) x := by
  show (0 : EReal) ≤ max x (-x)
  rcases le_total 0 x with h | h
  · exact le_max_of_le_left h
  · exact le_max_of_le_right (EReal.neg_nonneg.mpr h)

theorem fold_accM (y : Fin 64 → ℕ → EReal) {n : ℕ} (hn : n = 8) (r : Fin 64) :
    Finset.fold max (Ideal.ofBits .f32 4286578688#32) (fun l : Fin 128 => accM (k0_pay51 (F := Ideal)) (fun r n => FloatOps.absf (F := Ideal) (φ := .f32) (y r n)) n (ix2 r l)) Finset.univ = kamax (y r) := by
  subst hn
  have e0 : Ideal.ofBits .f32 4286578688#32 = (⊥ : EReal) := by simp [Ideal.ofBits, Ideal.ieee]
  rw [e0]
  show (Finset.univ : Finset (Fin 128)).sup _ = _
  refine le_antisymm (Finset.sup_le fun l _ => ?_) (Finset.sup_le fun n _ => ?_)
  · rw [accM_apply, pay51_at]
    refine max_le ((absf_nonneg _).trans (Finset.le_sup (f := fun n : Fin 8192 => FloatOps.absf (F := Ideal) (φ := .f32) (y r n.val)) (Finset.mem_univ 0))) (Finset.sup_le fun b hb => ?_)
    have hb' : 128 * b + l.val < 8192 := by have := Finset.mem_range.mp hb; omega
    exact Finset.le_sup (f := fun n : Fin 8192 => FloatOps.absf (F := Ideal) (φ := .f32) (y r n.val)) (Finset.mem_univ ⟨_, hb'⟩)
  · refine le_trans ?_ (Finset.le_sup (Finset.mem_univ (⟨n.val % 128, Nat.mod_lt _ (by decide)⟩ : Fin 128)))
    rw [accM_apply]
    refine le_max_of_le_right ?_
    have hb : n.val / 128 ∈ Finset.range (8 * 8) := Finset.mem_range.mpr (by omega)
    refine le_trans (le_of_eq ?_) (Finset.le_sup hb)
    show FloatOps.absf (F := Ideal) (φ := .f32) (y r n.val) = FloatOps.absf (F := Ideal) (φ := .f32) (y r (128 * (n.val / 128) + n.val % 128))
    rw [Nat.div_add_mod]

/-! ## The vector expressions between the loops -/

theorem v11_at (h : Fin 64 → ℕ → EReal) {n : ℕ} (hn : n = 8) (r : Fin 64) (l : Fin 128) :
    k0_pay58 (accS (k0_pay51 (F := Ideal)) h n) (ix2 r l) = kmean (h r) := by
  unfold kmean
  rw [← sum_accS h hn r]
  generalize accS _ h n = v5
  pointwise [k0_pay58]

theorem v12_at (h : Fin 64 → ℕ → EReal) {n : ℕ} (hn : n = 8) (r : Fin 64) (l : Fin 256) :
    k0_pay59 (accS (k0_pay51 (F := Ideal)) h n) (ix2 r l) = kmean (h r) := by
  have := v11_at h hn r
  revert this
  generalize accS _ h n = v5
  intro this
  pointwise [k0_pay59]
  simp only [this, dite_eq_ite, ite_self]

theorem v74_at (h : Fin 64 → ℕ → EReal) {n : ℕ} (hn : n = 8) (r : Fin 64) (l : Fin 128) :
    k0_pay74 (k0_pay73 (accS (k0_pay51 (F := Ideal)) (fun r n => kcen (h r) n * kcen (h r) n) n)) (ix2 r l) = krstd (h r) := by
  unfold krstd
  rw [← sum_accS (fun r n => kcen (h r) n * kcen (h r) n) hn r]
  generalize accS _ _ n = v5
  pointwise [k0_pay74, k0_pay73]

theorem v75_at (h : Fin 64 → ℕ → EReal) {n : ℕ} (hn : n = 8) (r : Fin 64) (l : Fin 256) :
    k0_pay75 (k0_pay73 (accS (k0_pay51 (F := Ideal)) (fun r n => kcen (h r) n * kcen (h r) n) n)) (ix2 r l) = krstd (h r) := by
  have := v74_at h hn r
  revert this
  generalize k0_pay73 (F := Ideal) _ = v5
  intro this
  pointwise [k0_pay75]
  simp only [this, dite_eq_ite, ite_self]

theorem v81_at (y : Fin 64 → ℕ → EReal) {n : ℕ} (hn : n = 8) (r : Fin 64) (l : Fin 128) :
    k0_pay78 (accM (k0_pay51 (F := Ideal)) (fun r n => FloatOps.absf (F := Ideal) (φ := .f32) (y r n)) n) (ix2 r l) = kamax (y r) := by
  rw [← fold_accM y hn r]
  generalize accM _ _ n = v5
  pointwise [k0_pay78]

theorem fieldv_at (v77 : FVec Ideal S64x128 .f32) (r : Fin 64) (l : Fin 128) :
    k0_pay83 (k0_pay79 v77) (k0_pay80 v77) (k0_pay81 v77) (k0_pay82 v77) (ix2 r l) = kfield (k0_pay78 v77 (ix2 r l) * Ideal.ofBits .f32 0x3B124925#32) := by
  have h83 : k0_pay79 v77 (ix2 r l) = k0_pay78 v77 (ix2 r l) * Ideal.ofBits .f32 0x3B124925#32 := by
    unfold k0_pay79; generalize k0_pay78 v77 = a; pointwise []
  have h105 : k0_pay80 v77 (ix2 r l) = fstep (k0_pay79 v77 (ix2 r l)) (fstep (k0_pay79 v77 (ix2 r l)) (fstep (k0_pay79 v77 (ix2 r l)) 0#32 128#32) 64#32) 32#32 := by
    unfold k0_pay80 fstep
    generalize k0_pay79 v77 = w
    pointwise []
  have h107 : k0_pay81 v77 (ix2 r l) = IntOp.addi (k0_pay80 v77 (ix2 r l)) 16#32 := by
    unfold k0_pay81; generalize k0_pay80 v77 = a; pointwise []
  have h109 : k0_pay82 v77 (ix2 r l) = IntOp.shli .vector (k0_pay81 v77 (ix2 r l)) 23#32 := by
    unfold k0_pay82; generalize k0_pay81 v77 = a; pointwise []
  have key : ∀ (v83 : FVec Ideal S64x128 .f32) (v105 v107 v109 : IVec S64x128 32), v107 (ix2 r l) = IntOp.addi (v105 (ix2 r l)) 16#32 →
      v109 (ix2 r l) = IntOp.shli .vector (v107 (ix2 r l)) 23#32 →
      k0_pay83 v83 v105 v107 v109 (ix2 r l) = if v83 (ix2 r l) < Ideal.ofBits .f32 0x7B800000#32 then
        fstep (v83 (ix2 r l)) (fstep (v83 (ix2 r l)) (fstep (v83 (ix2 r l)) (fstep (v83 (ix2 r l)) (fstep (v83 (ix2 r l)) (v105 (ix2 r l)) 16#32) 8#32) 4#32) 2#32) 1#32
        else 255#32 := by
    intro v83 v105 v107 v109 e1 e2
    unfold fstep
    rw [← e1, ← e2]
    pointwise [k0_pay83]
  rw [key _ _ _ _ h107 h109, h105, h83]
  rfl

theorem kexp_at (v77 : FVec Ideal S64x128 .f32) (a : Fin 64 → EReal) (ha : ∀ r l, k0_pay78 v77 (ix2 r l) = a r) (r : Fin 64) (l : Fin 128) :
    Scalar.select (k0_pay84 (k0_pay78 v77) (k0_pay79 v77) (k0_pay80 v77) (k0_pay81 v77) (k0_pay82 v77) (ix2 r l)) 0#32
      (k0_pay85 (k0_pay79 v77) (k0_pay80 v77) (k0_pay81 v77) (k0_pay82 v77) (ix2 r l)) = kexp (a r) := by
  unfold kexp
  rw [← ha r l, ← fieldv_at v77 r l]
  unfold k0_pay84 k0_pay85
  generalize k0_pay83 (k0_pay79 v77) (k0_pay80 v77) (k0_pay81 v77) (k0_pay82 v77) = w
  generalize k0_pay78 v77 = u
  pointwise []

theorem v161_at (v77 : FVec Ideal S64x128 .f32) (a : Fin 64 → EReal) (ha : ∀ r l, k0_pay78 v77 (ix2 r l) = a r) (r : Fin 64) (l : Fin 128) :
    k0_pay87 (F := Ideal) (k0_pay84 (k0_pay78 v77) (k0_pay79 v77) (k0_pay80 v77) (k0_pay81 v77) (k0_pay82 v77))
      (k0_pay85 (k0_pay79 v77) (k0_pay80 v77) (k0_pay81 v77) (k0_pay82 v77)) 0#32 (ix2 r l) = kscale (a r) := by
  have := kexp_at v77 a ha r
  revert this
  unfold kscale
  generalize k0_pay84 (k0_pay78 v77) (k0_pay79 v77) (k0_pay80 v77) (k0_pay81 v77) (k0_pay82 v77) = v152
  generalize k0_pay85 (k0_pay79 v77) (k0_pay80 v77) (k0_pay81 v77) (k0_pay82 v77) = v154
  intro this
  rw [← this l]
  pointwise [k0_pay87, k0_pay86]

theorem v167_at (v77 : FVec Ideal S64x128 .f32) (a : Fin 64 → EReal) (ha : ∀ r l, k0_pay78 v77 (ix2 r l) = a r) (r : Fin 64) (l : Fin 256) :
    k0_pay88 (F := Ideal) (k0_pay84 (k0_pay78 v77) (k0_pay79 v77) (k0_pay80 v77) (k0_pay81 v77) (k0_pay82 v77))
      (k0_pay85 (k0_pay79 v77) (k0_pay80 v77) (k0_pay81 v77) (k0_pay82 v77)) 0#32 (ix2 r l) = kinv (a r) := by
  have := kexp_at v77 a ha r
  revert this
  unfold kinv
  generalize k0_pay84 (k0_pay78 v77) (k0_pay79 v77) (k0_pay80 v77) (k0_pay81 v77) (k0_pay82 v77) = v152
  generalize k0_pay85 (k0_pay79 v77) (k0_pay80 v77) (k0_pay81 v77) (k0_pay82 v77) = v154
  intro this
  pointwise [k0_pay88, k0_pay86]
  simp only [this, dite_eq_ite, ite_self]

end Cert.KernelIdeal.KI
end
-- ==== Proof.KI.Block.lean ====
/- What the kernel leaves in its output blocks at one grid point, as functions of the point's input blocks; and that the
   buffers' contents after the loops, read through their views, are those functions. -/
module

public import proofs.«01_k».proof.Proof.KI.Rows

@[expose] public section

set_option maxRecDepth 16384

noncomputable section

namespace Cert.KernelIdeal.KI
open Idealize.ShloMosaic Idealize.ShloMosaic.TcCoe
open Cert.KernelIdeal Cert.KernelIdeal.Gen

/-! ## The blocks -/

/-- Row `r` of the residual block. -/
def hrow (x0 x1 : Vec Ideal S1x64x8192 .bf16) (x2 : Vec Ideal S1x8192 .f32) (x3 : Vec Ideal S1x64x8192 .i32) (r : Fin 64) (n : ℕ) : EReal :=
  hval (x0 (ix3 0 r (col n))) (x1 (ix3 0 r (col n))) (x2 (ix2 0 (col n))) (x3 (ix3 0 r (col n)))
/-- A parameter row (gain, offset) as a function of the lane. -/
def prow (x : Vec Ideal S1x8192 .f32) (n : ℕ) : EReal := x (ix2 0 (col n))
/-- Row `r` of the normalised block. -/
def yrow (x0 x1 : Vec Ideal S1x64x8192 .bf16) (x2 : Vec Ideal S1x8192 .f32) (x3 : Vec Ideal S1x64x8192 .i32) (x4 x5 : Vec Ideal S1x8192 .f32)
    (r : Fin 64) : ℕ → EReal := ky (hrow x0 x1 x2 x3 r) (prow x4) (prow x5)
/-- The residual block. -/
def hB (x0 x1 : Vec Ideal S1x64x8192 .bf16) (x2 : Vec Ideal S1x8192 .f32) (x3 : Vec Ideal S1x64x8192 .i32) : Vec Ideal S1x64x8192 .bf16 :=
  fun j => hrow x0 x1 x2 x3 (j 1) (j 2).val
/-- The block of codes. -/
def codesB (x0 x1 : Vec Ideal S1x64x8192 .bf16) (x2 : Vec Ideal S1x8192 .f32) (x3 : Vec Ideal S1x64x8192 .i32) (x4 x5 : Vec Ideal S1x8192 .f32) :
    Vec Ideal S1x64x8192 .fp8e4m3 := fun j => kcode (yrow x0 x1 x2 x3 x4 x5 (j 1)) (j 2).val
/-- The block of mask bytes: eight keep flags weighted by the packing matrix `W`, converted to an integer and cut to a byte. -/
def maskB (x3 : Vec Ideal S1x64x8192 .i32) (W : Vec Ideal S1024x128 .bf16) : Vec Ideal S1x64x1024 .i8 := fun j =>
  BitVec.setWidth 8 (FloatOps.fptosi (F := Ideal) (φ := .f32) 32 (∑ k : Fin 1024,
    kval (x3 (ix3 0 (j 1) (col (1024 * ((j 2).val / 128) + k.val)))) * W (ix2 k ⟨(j 2).val % 128, Nat.mod_lt _ (by decide)⟩)))
/-- A row of statistics after a point adds its 64 values at lanes `64 t …`. -/
def statB (t : ℕ) (v : Fin 64 → EReal) (o : Vec Ideal S1x2048 .f32) : Vec Ideal S1x2048 .f32 := fun j =>
  if h : 64 * t ≤ (j 1).val ∧ (j 1).val < 64 * t + 64 then o j + v ⟨(j 1).val - 64 * t, by omega⟩ else o j

/-! ## The loops' contents -/

theorem trips1 : Scf.trips k0_t1_loop.lb k0_t1_loop.ub k0_t1_loop.st = 8 := by decide +kernel
theorem trips2 : Scf.trips k0_t2_loop.lb k0_t2_loop.ub k0_t2_loop.st = 8 := by decide +kernel
theorem trips3 : Scf.trips k0_t3_loop.lb k0_t3_loop.ub k0_t3_loop.st = 8 := by decide +kernel
theorem trips4 : Scf.trips k0_t4_loop.lb k0_t4_loop.ub k0_t4_loop.st = 8 := by decide +kernel

theorem col_col (n : ℕ) : col (col n).val = col n := col_val _

variable {e : EltTy}

theorem doneC {m : Memref sig .tc .vmem S64x8192 e} (hm : m.IsWhole) (V : Fin 64 → ℕ → Elt Ideal e)
    (G : BufTy.Contents (Elt Ideal) m.view.ty) {n : ℕ} (hn : n = 8) (r : Fin 64) (j : Fin 8192) :
    m.view.read (Elt Ideal) (Nat.casesOn (motive := fun _ => BufTy.Contents (Elt Ideal) m.view.ty) n G fun k => mixC hm V G (k + 1)) (ix2 r j) = V r j.val := by
  subst hn
  exact (read_mixC hm V G 8 r j).trans (if_pos (by omega))

theorem doneC3 {m : Memref sig .tc .vmem S1x64x8192 e} (hm : m.IsWhole) (V : Fin 64 → ℕ → Elt Ideal e)
    (G : BufTy.Contents (Elt Ideal) m.view.ty) {n : ℕ} (hn : n = 8) (B : S1x64x8192.Idx → Elt Ideal e) (hB : ∀ r (j : Fin 8192), V r j.val = B (ix3 0 r j)) :
    m.view.read (Elt Ideal) (Nat.casesOn (motive := fun _ => BufTy.Contents (Elt Ideal) m.view.ty) n G fun k => mixC3 hm V G (k + 1)) = B := by
  subst hn
  funext j
  obtain ⟨z, r, j, rfl⟩ : ∃ z r c, j = ix3 z r c := ⟨j 0, j 1, j 2, funext fun a => by match a with | 0 => rfl | 1 => rfl | 2 => rfl⟩
  obtain rfl : z = 0 := Subsingleton.elim _ _
  exact ((read_mixC3 hm V G 8 0 r j).trans (if_pos (by omega))).trans (hB r j)

theorem doneK {m : Memref sig .tc .vmem S512x1024 e} (hm : m.IsWhole) (V : Fin 64 → ℕ → Elt Ideal e)
    (G : BufTy.Contents (Elt Ideal) m.view.ty) {n : ℕ} (hn : n = 8) (r : Fin 512) (j : Fin 1024) :
    m.view.read (Elt Ideal) (Nat.casesOn (motive := fun _ => BufTy.Contents (Elt Ideal) m.view.ty) n G fun k => mixK hm V G (k + 1)) (ix2 r j)
      = V ⟨r.val % 64, Nat.mod_lt _ (by decide)⟩ (1024 * (r.val / 64) + j.val) := by
  subst hn
  exact (read_mixK hm V G 8 r j).trans (if_pos (by omega))

theorem VH_unread {m1 m2 : Memref sig .tc .vmem S1x64x8192 .bf16} {m3 : Memref sig .tc .vmem S1x8192 .f32} {m4 : Memref sig .tc .vmem S1x64x8192 .i32}
    (h1 : m1.IsWhole) (h2 : m2.IsWhole) (h3 : m3.IsWhole) (h4 : m4.IsWhole)
    (x0 x1 : Vec Ideal S1x64x8192 .bf16) (x2 : Vec Ideal S1x8192 .f32) (x3 : Vec Ideal S1x64x8192 .i32) :
    VH (h1.unread x0) (h2.unread x1) (h3.unread x2) (h4.unread x3) = hrow x0 x1 x2 x3 := by
  funext r n
  unfold VH hrow
  rw [h1.read_unread, h2.read_unread, h3.read_unread, h4.read_unread]

theorem hrow_col (x0 x1 : Vec Ideal S1x64x8192 .bf16) (x2 : Vec Ideal S1x8192 .f32) (x3 : Vec Ideal S1x64x8192 .i32) (r : Fin 64) (n : ℕ) :
    hrow x0 x1 x2 x3 r (col n).val = hrow x0 x1 x2 x3 r n := by unfold hrow; rw [col_col]
theorem prow_col (x : Vec Ideal S1x8192 .f32) (n : ℕ) : prow x (col n).val = prow x n := by unfold prow; rw [col_col]

/-- The chain of buffer contents and carried vectors through the first three loops, `h` being the first loop's rows. -/
structure Chain {m5 m6 : Memref sig .tc .vmem S1x8192 .f32} {m13 : Memref sig .tc .vmem S64x8192 .f32} (hm : m13.IsWhole)
    (h : Fin 64 → ℕ → EReal) (g5 : BufTy.Contents (Elt Ideal) m5.view.ty) (g6 : BufTy.Contents (Elt Ideal) m6.view.ty)
    (G0 G1 G2 G3 : BufTy.Contents (Elt Ideal) m13.view.ty) (v5 : FVec Ideal S64x128 .f32) (v66 : FVec Ideal S64 .f32)
    (v77 : FVec Ideal S64x128 .f32) : Prop where
  e1 : G1 = Nat.casesOn (motive := fun _ => BufTy.Contents (Elt Ideal) m13.view.ty) (Scf.trips k0_t1_loop.lb k0_t1_loop.ub k0_t1_loop.st) G0 fun k => mixC hm h G0 (k + 1)
  e5 : v5 = accS (k0_pay51 (F := Ideal)) h (Scf.trips k0_t1_loop.lb k0_t1_loop.ub k0_t1_loop.st)
  e2 : G2 = Nat.casesOn (motive := fun _ => BufTy.Contents (Elt Ideal) m13.view.ty) (Scf.trips k0_t2_loop.lb k0_t2_loop.ub k0_t2_loop.st) G1 fun k => mixC hm (V2 (k0_pay59 v5) G1) G1 (k + 1)
  e66 : v66 = k0_pay73 (accS (k0_pay51 (F := Ideal)) (fun r n => V2 (k0_pay59 v5) G1 r n * V2 (k0_pay59 v5) G1 r n) (Scf.trips k0_t2_loop.lb k0_t2_loop.ub k0_t2_loop.st))
  e3 : G3 = Nat.casesOn (motive := fun _ => BufTy.Contents (Elt Ideal) m13.view.ty) (Scf.trips k0_t3_loop.lb k0_t3_loop.ub k0_t3_loop.st) G2 fun k => mixC hm (V3 (k0_pay75 v66) g5 g6 G2) G2 (k + 1)
  e77 : v77 = accM (k0_pay51 (F := Ideal)) (T3 (k0_pay75 v66) g5 g6 G2) (Scf.trips k0_t3_loop.lb k0_t3_loop.ub k0_t3_loop.st)

section Chain
variable {m5 m6 : Memref sig .tc .vmem S1x8192 .f32} {m13 : Memref sig .tc .vmem S64x8192 .f32} {hm : m13.IsWhole}
  {h : Fin 64 → ℕ → EReal} {g5 : BufTy.Contents (Elt Ideal) m5.view.ty} {g6 : BufTy.Contents (Elt Ideal) m6.view.ty}
  {G0 G1 G2 G3 : BufTy.Contents (Elt Ideal) m13.view.ty} {v5 : FVec Ideal S64x128 .f32} {v66 : FVec Ideal S64 .f32} {v77 : FVec Ideal S64x128 .f32}

theorem Chain.V2_eq (c : Chain hm h g5 g6 G0 G1 G2 G3 v5 v66 v77) (hp : ∀ r n, h r (col n).val = h r n) :
    V2 (k0_pay59 v5) G1 = fun r n => kcen (h r) n := by
  funext r n
  unfold V2 kcen
  rw [c.e1, doneC hm _ _ trips1, hp, c.e5, v12_at h trips1]

theorem Chain.v66_eq (c : Chain hm h g5 g6 G0 G1 G2 G3 v5 v66 v77) (hp : ∀ r n, h r (col n).val = h r n) :
    v66 = k0_pay73 (accS (k0_pay51 (F := Ideal)) (fun r n => kcen (h r) n * kcen (h r) n) (Scf.trips k0_t2_loop.lb k0_t2_loop.ub k0_t2_loop.st)) := by
  rw [c.e66, c.V2_eq hp]

theorem Chain.V3_eq (c : Chain hm h g5 g6 G0 G1 G2 G3 v5 v66 v77) (hp : ∀ r n, h r (col n).val = h r n)
    {x4 x5 : Vec Ideal S1x8192 .f32} (h5 : m5.view.read (Elt Ideal) g5 = x4) (h6 : m6.view.read (Elt Ideal) g6 = x5) :
    V3 (k0_pay75 v66) g5 g6 G2 = fun r n => ky (h r) (prow x4) (prow x5) n := by
  funext r n
  unfold V3 ky prow
  rw [c.e2, doneC hm _ _ trips2, c.V2_eq hp, c.v66_eq hp, v75_at h trips2, h5, h6]
  show kcen (h r) (col n).val * _ * _ + _ = _
  unfold kcen
  rw [hp]

theorem Chain.v77_at (c : Chain hm h g5 g6 G0 G1 G2 G3 v5 v66 v77) (hp : ∀ r n, h r (col n).val = h r n)
    {x4 x5 : Vec Ideal S1x8192 .f32} (h5 : m5.view.read (Elt Ideal) g5 = x4) (h6 : m6.view.read (Elt Ideal) g6 = x5) (r : Fin 64) (l : Fin 128) :
    k0_pay78 v77 (ix2 r l) = kamax (ky (h r) (prow x4) (prow x5)) := by
  rw [c.e77]
  unfold T3
  rw [c.V3_eq hp h5 h6]
  exact v81_at (fun r => ky (h r) (prow x4) (prow x5)) trips3 r l

/-- The reciprocal deviation the statistics are taken from. -/
theorem rstd_at (hm : m13.IsWhole) (h : Fin 64 → ℕ → EReal) (G0 : BufTy.Contents (Elt Ideal) m13.view.ty) (hp : ∀ r n, h r (col n).val = h r n)
    {G1 : BufTy.Contents (Elt Ideal) m13.view.ty}
    (e1 : G1 = Nat.casesOn (motive := fun _ => BufTy.Contents (Elt Ideal) m13.view.ty) (Scf.trips k0_t1_loop.lb k0_t1_loop.ub k0_t1_loop.st) G0 fun k => mixC hm h G0 (k + 1))
    (r : Fin 64) (l : Fin 128) :
    k0_pay74 (k0_pay73 (accS (k0_pay51 (F := Ideal)) (fun r n => V2 (k0_pay59 (accS (k0_pay51 (F := Ideal)) h (Scf.trips k0_t1_loop.lb k0_t1_loop.ub k0_t1_loop.st))) G1 r n
      * V2 (k0_pay59 (accS (k0_pay51 (F := Ideal)) h (Scf.trips k0_t1_loop.lb k0_t1_loop.ub k0_t1_loop.st))) G1 r n)
      (Scf.trips k0_t2_loop.lb k0_t2_loop.ub k0_t2_loop.st))) (ix2 r l) = krstd (h r) := by
  have e : V2 (k0_pay59 (accS (k0_pay51 (F := Ideal)) h (Scf.trips k0_t1_loop.lb k0_t1_loop.ub k0_t1_loop.st))) G1 = fun r n => kcen (h r) n := by
    funext r n
    unfold V2 kcen
    rw [e1, doneC hm _ _ trips1, hp, v12_at h trips1]
  rw [e]; exact v74_at h trips2 r l

/-- The scale, likewise. -/
theorem Chain.scale_at (c : Chain hm h g5 g6 G0 G1 G2 G3 v5 v66 v77) (hp : ∀ r n, h r (col n).val = h r n)
    {x4 x5 : Vec Ideal S1x8192 .f32} (h5 : m5.view.read (Elt Ideal) g5 = x4) (h6 : m6.view.read (Elt Ideal) g6 = x5) (r : Fin 64) (l : Fin 128) :
    k0_pay87 (F := Ideal) (k0_pay84 (k0_pay78 v77) (k0_pay79 v77) (k0_pay80 v77) (k0_pay81 v77) (k0_pay82 v77))
      (k0_pay85 (k0_pay79 v77) (k0_pay80 v77) (k0_pay81 v77) (k0_pay82 v77)) 0#32 (ix2 r l) = kscale (kamax (ky (h r) (prow x4) (prow x5))) :=
  v161_at v77 (fun r => kamax (ky (h r) (prow x4) (prow x5))) (c.v77_at hp h5 h6) r l

/-- The codes' buffer after the last loop. -/
theorem Chain.codes_eq (c : Chain hm h g5 g6 G0 G1 G2 G3 v5 v66 v77) (hp : ∀ r n, h r (col n).val = h r n)
    {x4 x5 : Vec Ideal S1x8192 .f32} (h5 : m5.view.read (Elt Ideal) g5 = x4) (h6 : m6.view.read (Elt Ideal) g6 = x5)
    {m7 : Memref sig .tc .vmem S1x64x8192 .fp8e4m3} (hm7 : m7.IsWhole) (G7 : BufTy.Contents (Elt Ideal) m7.view.ty) :
    m7.view.read (Elt Ideal) (Nat.casesOn (motive := fun _ => BufTy.Contents (Elt Ideal) m7.view.ty) (Scf.trips k0_t4_loop.lb k0_t4_loop.ub k0_t4_loop.st) G7
      fun k => mixC3 hm7 (V4 (k0_pay88 (F := Ideal) (k0_pay84 (k0_pay78 v77) (k0_pay79 v77) (k0_pay80 v77) (k0_pay81 v77) (k0_pay82 v77))
      (k0_pay85 (k0_pay79 v77) (k0_pay80 v77) (k0_pay81 v77) (k0_pay82 v77)) 0#32) G3) G7 (k + 1))
      = fun j => kcode (ky (h (j 1)) (prow x4) (prow x5)) (j 2).val := by
  refine doneC3 hm7 _ _ trips4 _ fun r j => ?_
  unfold V4
  rw [c.e3, doneC hm _ _ trips3, c.V3_eq hp h5 h6, v167_at v77 (fun r => kamax (ky (h r) (prow x4) (prow x5))) (c.v77_at hp h5 h6), col_val]
  rfl

end Chain

/-! ## The mask -/

theorem read_whole2 {d0 d1 : ℕ} (v : View sig .tc .vmem ⟨2, ![d0, d1]⟩ e) (f : v.ty.Contents (Elt Ideal))
    (inb : ∀ a, (![0, 0] : Fin 2 → ℕ) a + (⟨2, ![d0, d1]⟩ : Shape).size a ≤ (⟨2, ![d0, d1]⟩ : Shape).size a) (j : (⟨2, ![d0, d1]⟩ : Shape).Idx) :
    View.readAt (Elt Ideal) v (Rect.unit (s := ⟨2, ![d0, d1]⟩) ![0, 0] (⟨2, ![d0, d1]⟩ : Shape).size inb).toLoadRect f j = v.read (Elt Ideal) f j := by
  rw [View.readAt_apply]
  refine congrArg _ (funext fun a => Fin.ext ?_)
  match a with
  | 0 => show 0 + 1 * (j 0).val = (j 0).val; omega
  | 1 => show 0 + 1 * (j 1).val = (j 1).val; omega

/-- A byte of the mask from rows `64 q …` of the product of keep flags and packing matrix. -/
def tileB (v13 : Vec Ideal S512x1024 .bf16) (W : Vec Ideal S1024x128 .bf16) (q : Fin 8) (r : Fin 64) (l : Fin 128) : BitVec 8 :=
  BitVec.setWidth 8 (FloatOps.fptosi (F := Ideal) (φ := .f32) 32 (∑ k : Fin 1024, v13 (ix2 ⟨64 * q.val + r.val, by omega⟩ k) * W (ix2 k l)))

section
variable (v13 : Vec Ideal S512x1024 .bf16) (W : Vec Ideal S1024x128 .bf16) (z : Fin 1) (r : Fin 64) (l : Fin 128)
theorem tile0 : k0_pay61 v13 W (ix3 z r l) = tileB v13 W 0 r l := by
  refine Eq.trans (b := ?_) ?_ ?_
  rotate_left
  · pointwise [k0_pay61, k0_pay60]; rfl
  · unfold tileB; congr; funext k; congr 3; exact Fin.ext (by show r.val = 64 * 0 + r.val; omega)
theorem tile1 : k0_pay62 v13 W (ix3 z r l) = tileB v13 W 1 r l := by
  refine Eq.trans (b := ?_) ?_ ?_
  rotate_left
  · pointwise [k0_pay62, k0_pay60]; rfl
  · unfold tileB; congr
theorem tile2 : k0_pay64 (k0_pay63 v13 W) (ix3 z r l) = tileB v13 W 2 r l := by
  refine Eq.trans (b := ?_) ?_ ?_
  rotate_left
  · pointwise [k0_pay64, k0_pay63, k0_pay60]; rfl
  · unfold tileB; congr
theorem tile3 : k0_pay65 (F := Ideal) (k0_pay60 v13 W) (ix3 z r l) = tileB v13 W 3 r l := by
  refine Eq.trans (b := ?_) ?_ ?_
  rotate_left
  · pointwise [k0_pay65, k0_pay60]; rfl
  · unfold tileB; congr
theorem tile4 : k0_pay66 (F := Ideal) (k0_pay60 v13 W) (ix3 z r l) = tileB v13 W 4 r l := by
  refine Eq.trans (b := ?_) ?_ ?_
  rotate_left
  · pointwise [k0_pay66, k0_pay60]; rfl
  · unfold tileB; congr
theorem tile5 : k0_pay67 (F := Ideal) (k0_pay60 v13 W) (ix3 z r l) = tileB v13 W 5 r l := by
  refine Eq.trans (b := ?_) ?_ ?_
  rotate_left
  · pointwise [k0_pay67, k0_pay60]; rfl
  · unfold tileB; congr
theorem tile6 : k0_pay68 (F := Ideal) (k0_pay60 v13 W) (ix3 z r l) = tileB v13 W 6 r l := by
  refine Eq.trans (b := ?_) ?_ ?_
  rotate_left
  · pointwise [k0_pay68, k0_pay60]; rfl
  · unfold tileB; congr
theorem tile7 : k0_pay69 (F := Ideal) (k0_pay60 v13 W) (ix3 z r l) = tileB v13 W 7 r l := by
  refine Eq.trans (b := ?_) ?_ ?_
  rotate_left
  · pointwise [k0_pay69, k0_pay60]; rfl
  · unfold tileB; congr
end

theorem mask_hit {m : Memref sig .tc .vmem S1x64x1024 .i8} (f : BufTy.Contents (Elt Ideal) m.view.ty) (c : ℕ)
    (inb : ∀ a, (![0, 0, c] : Fin 3 → ℕ) a + S1x64x128.size a ≤ S1x64x1024.size a) (w : Vec Ideal S1x64x128 .i8) (L : List (View.Piece (Elt Ideal) S1x64x1024 .i8))
    (z : Fin 1) (r : Fin 64) (l : Fin 1024) (k : Fin 128) (h : l.val = c + k.val) :
    m.view.read (Elt Ideal) (m.view.writes (Elt Ideal) f (⟨Rect.unit (s := S1x64x1024) ![0, 0, c] S1x64x128.size inb, w⟩ :: L)) (ix3 z r l) = w (ix3 z r k) :=
  View.read_writes_cons_unit_of_mem m.view f inb w L (ix3 z r l : S1x64x1024.Idx) (ix3 z r k : S1x64x128.Idx) rfl (fun a => by
    match a with
    | 0 => exact (Nat.zero_add _).symm
    | 1 => exact (Nat.zero_add _).symm
    | 2 => exact h)

theorem mask_miss {m : Memref sig .tc .vmem S1x64x1024 .i8} (f : BufTy.Contents (Elt Ideal) m.view.ty) (c : ℕ)
    (inb : ∀ a, (![0, 0, c] : Fin 3 → ℕ) a + S1x64x128.size a ≤ S1x64x1024.size a) (w : Vec Ideal S1x64x128 .i8) (L : List (View.Piece (Elt Ideal) S1x64x1024 .i8))
    (z : Fin 1) (r : Fin 64) (l : Fin 1024) (h : l.val < c) :
    m.view.read (Elt Ideal) (m.view.writes (Elt Ideal) f (⟨Rect.unit (s := S1x64x1024) ![0, 0, c] S1x64x128.size inb, w⟩ :: L)) (ix3 z r l)
      = m.view.read (Elt Ideal) (m.view.writes (Elt Ideal) f L) (ix3 z r l) :=
  View.read_writes_cons_unit_of_not_mem m.view f inb w L (ix3 z r l : S1x64x1024.Idx) rfl 2 (Or.inl h)

/-- The mask's buffer after its eight stores. -/
theorem mask_done {m : Memref sig .tc .vmem S1x64x1024 .i8} (f : BufTy.Contents (Elt Ideal) m.view.ty) (v13 : Vec Ideal S512x1024 .bf16) (W : Vec Ideal S1024x128 .bf16)
    (x3 : Vec Ideal S1x64x8192 .i32)
    (h13 : ∀ (r : Fin 512) (k : Fin 1024), v13 (ix2 r k) = kval (x3 (ix3 0 ⟨r.val % 64, Nat.mod_lt _ (by decide)⟩ (col (1024 * (r.val / 64) + k.val))))) :
    m.view.read (Elt Ideal) (m.view.writes (Elt Ideal) f [
      ⟨Rect.unit (s := S1x64x1024) ![0, 0, 896] S1x64x128.size inb_S1x64x1024_S1x64x128_0_0_896, k0_pay69 (F := Ideal) (k0_pay60 v13 W)⟩,
      ⟨Rect.unit (s := S1x64x1024) ![0, 0, 768] S1x64x128.size inb_S1x64x1024_S1x64x128_0_0_768, k0_pay68 (F := Ideal) (k0_pay60 v13 W)⟩,
      ⟨Rect.unit (s := S1x64x1024) ![0, 0, 640] S1x64x128.size inb_S1x64x1024_S1x64x128_0_0_640, k0_pay67 (F := Ideal) (k0_pay60 v13 W)⟩,
      ⟨Rect.unit (s := S1x64x1024) ![0, 0, 512] S1x64x128.size inb_S1x64x1024_S1x64x128_0_0_512, k0_pay66 (F := Ideal) (k0_pay60 v13 W)⟩,
      ⟨Rect.unit (s := S1x64x1024) ![0, 0, 384] S1x64x128.size inb_S1x64x1024_S1x64x128_0_0_384, k0_pay65 (F := Ideal) (k0_pay60 v13 W)⟩,
      ⟨Rect.unit (s := S1x64x1024) ![0, 0, 256] S1x64x128.size inb_S1x64x1024_S1x64x128_0_0_256, k0_pay64 (k0_pay63 v13 W)⟩,
      ⟨Rect.unit (s := S1x64x1024) ![0, 0, 128] S1x64x128.size inb_S1x64x1024_S1x64x128_0_0_128, k0_pay62 v13 W⟩,
      ⟨Rect.unit (s := S1x64x1024) ![0, 0, 0] S1x64x128.size inb_S1x64x1024_S1x64x128_0_0_0, k0_pay61 v13 W⟩])
      = maskB x3 W := by
  funext j
  obtain ⟨z, r, l, rfl⟩ : ∃ z r l, j = ix3 z r l := ⟨j 0, j 1, j 2, funext fun a => by match a with | 0 => rfl | 1 => rfl | 2 => rfl⟩
  have key : ∀ q : Fin 8, l.val / 128 = q.val → tileB v13 W q r ⟨l.val % 128, Nat.mod_lt _ (by decide)⟩ = maskB x3 W (ix3 z r l) := by
    intro q hq
    unfold tileB maskB
    refine congrArg (fun s => BitVec.setWidth 8 (FloatOps.fptosi (F := Ideal) (φ := .f32) 32 s)) (Finset.sum_congr rfl fun k _ => ?_)
    rw [h13]
    refine congrArg₂ (fun a b => kval (x3 (ix3 0 a (col b))) * _) (Fin.ext ?_) ?_
    · show (64 * q.val + r.val) % 64 = r.val; omega
    · show 1024 * ((64 * q.val + r.val) / 64) + k.val = 1024 * (l.val / 128) + k.val
      rw [hq]; omega
  have hl := l.isLt
  obtain ⟨q, hq⟩ : ∃ q, l.val / 128 = q := ⟨_, rfl⟩
  have hq8 : q < 8 := by omega
  have key' := key ⟨q, hq8⟩ hq
  interval_cases q
  · refine (mask_miss f 896 _ _ _ z r l (by omega)).trans ?_
    refine (mask_miss f 768 _ _ _ z r l (by omega)).trans ?_
    refine (mask_miss f 640 _ _ _ z r l (by omega)).trans ?_
    refine (mask_miss f 512 _ _ _ z r l (by omega)).trans ?_
    refine (mask_miss f 384 _ _ _ z r l (by omega)).trans ?_
    refine (mask_miss f 256 _ _ _ z r l (by omega)).trans ?_
    refine (mask_miss f 128 _ _ _ z r l (by omega)).trans ?_
    exact (mask_hit f 0 _ _ _ z r l ⟨l.val % 128, Nat.mod_lt _ (by decide)⟩ (by show l.val = 0 + l.val % 128; omega)).trans ((tile0 v13 W z r _).trans key')
  · refine (mask_miss f 896 _ _ _ z r l (by omega)).trans ?_
    refine (mask_miss f 768 _ _ _ z r l (by omega)).trans ?_
    refine (mask_miss f 640 _ _ _ z r l (by omega)).trans ?_
    refine (mask_miss f 512 _ _ _ z r l (by omega)).trans ?_
    refine (mask_miss f 384 _ _ _ z r l (by omega)).trans ?_
    refine (mask_miss f 256 _ _ _ z r l (by omega)).trans ?_
    exact (mask_hit f 128 _ _ _ z r l ⟨l.val % 128, Nat.mod_lt _ (by decide)⟩ (by show l.val = 128 + l.val % 128; omega)).trans ((tile1 v13 W z r _).trans key')
  · refine (mask_miss f 896 _ _ _ z r l (by omega)).trans ?_
    refine (mask_miss f 768 _ _ _ z r l (by omega)).trans ?_
    refine (mask_miss f 640 _ _ _ z r l (by omega)).trans ?_
    refine (mask_miss f 512 _ _ _ z r l (by omega)).trans ?_
    refine (mask_miss f 384 _ _ _ z r l (by omega)).trans ?_
    exact (mask_hit f 256 _ _ _ z r l ⟨l.val % 128, Nat.mod_lt _ (by decide)⟩ (by show l.val = 256 + l.val % 128; omega)).trans ((tile2 v13 W z r _).trans key')
  · refine (mask_miss f 896 _ _ _ z r l (by omega)).trans ?_
    refine (mask_miss f 768 _ _ _ z r l (by omega)).trans ?_
    refine (mask_miss f 640 _ _ _ z r l (by omega)).trans ?_
    refine (mask_miss f 512 _ _ _ z r l (by omega)).trans ?_
    exact (mask_hit f 384 _ _ _ z r l ⟨l.val % 128, Nat.mod_lt _ (by decide)⟩ (by show l.val = 384 + l.val % 128; omega)).trans ((tile3 v13 W z r _).trans key')
  · refine (mask_miss f 896 _ _ _ z r l (by omega)).trans ?_
    refine (mask_miss f 768 _ _ _ z r l (by omega)).trans ?_
    refine (mask_miss f 640 _ _ _ z r l (by omega)).trans ?_
    exact (mask_hit f 512 _ _ _ z r l ⟨l.val % 128, Nat.mod_lt _ (by decide)⟩ (by show l.val = 512 + l.val % 128; omega)).trans ((tile4 v13 W z r _).trans key')
  · refine (mask_miss f 896 _ _ _ z r l (by omega)).trans ?_
    refine (mask_miss f 768 _ _ _ z r l (by omega)).trans ?_
    exact (mask_hit f 640 _ _ _ z r l ⟨l.val % 128, Nat.mod_lt _ (by decide)⟩ (by show l.val = 640 + l.val % 128; omega)).trans ((tile5 v13 W z r _).trans key')
  · refine (mask_miss f 896 _ _ _ z r l (by omega)).trans ?_
    exact (mask_hit f 768 _ _ _ z r l ⟨l.val % 128, Nat.mod_lt _ (by decide)⟩ (by show l.val = 768 + l.val % 128; omega)).trans ((tile6 v13 W z r _).trans key')
  · exact (mask_hit f 896 _ _ _ z r l ⟨l.val % 128, Nat.mod_lt _ (by decide)⟩ (by show l.val = 896 + l.val % 128; omega)).trans ((tile7 v13 W z r _).trans key')

/-! ## The statistics -/

/-- A row's value picked from the diagonal of the tile at lane offset `64 q`. -/
def diagV (q : ℕ) (v : Fin 64 → EReal) (l : Fin 128) : EReal :=
  if h : 64 * q ≤ l.val ∧ l.val < 64 * q + 64 then v ⟨l.val - 64 * q, by omega⟩ else 0

theorem diag_sum (q : ℕ) (hq : q < 2) (v : Fin 64 → EReal) (l : Fin 128) :
    (∑ x : Fin 64, Scalar.select (IntOp.cmpi .eq (BitVec.ofNat 32 l.val) (IntOp.addi (BitVec.ofNat 32 x.val) (BitVec.ofNat 32 (64 * q)))) (v x) (0 : EReal)) = diagV q v l := by
  have e : ∀ x : Fin 64, Scalar.select (IntOp.cmpi .eq (BitVec.ofNat 32 l.val) (IntOp.addi (BitVec.ofNat 32 x.val) (BitVec.ofNat 32 (64 * q)))) (v x) (0 : EReal)
      = if l.val = x.val + 64 * q then v x else 0 := by
    intro x
    have := l.isLt; have := x.isLt
    have hb : (BitVec.ofNat 32 l.val = IntOp.addi (BitVec.ofNat 32 x.val) (BitVec.ofNat 32 (64 * q))) ↔ l.val = x.val + 64 * q := by
      show (_ = BitVec.ofNat 32 x.val + BitVec.ofNat 32 (64 * q)) ↔ _
      rw [← BitVec.ofNat_add]
      constructor
      · intro h
        have := congrArg BitVec.toNat h
        simp only [BitVec.toNat_ofNat] at this
        omega
      · intro h; rw [h]
    show Scalar.select (BitVec.ofBool (decide (_ = _))) _ _ = _
    by_cases hh : l.val = x.val + 64 * q
    · rw [if_pos hh]
      rw [decide_eq_true (hb.mpr hh)]; rfl
    · rw [if_neg hh]
      rw [decide_eq_false (fun h => hh (hb.mp h))]; rfl
  rw [Finset.sum_congr rfl fun x _ => e x]
  unfold diagV
  split
  · next h =>
    rw [Finset.sum_eq_single ⟨l.val - 64 * q, by omega⟩]
    · rw [if_pos]; show l.val = l.val - 64 * q + 64 * q; omega
    · intro b _ hb; rw [if_neg]; intro hh; exact hb (Fin.ext (by show b.val = l.val - 64 * q; omega))
    · intro h'; exact absurd (Finset.mem_univ _) h'
  · next h =>
    refine Finset.sum_eq_zero fun x _ => if_neg ?_
    have := x.isLt; omega

section
variable (V : FVec Ideal S64x128 .f32) (v : Fin 64 → EReal) (hv : ∀ r l, V (ix2 r l) = v r) (q : ℕ) (hq : q < 2) (o : Vec Ideal S1x128 .f32) (z : Fin 1) (l : Fin 128)
include hv hq
theorem pay92_at : k0_pay92 V (BitVec.ofNat 32 (64 * q)) o (ix2 z l) = o (ix2 z l) + diagV q v l := by
  rw [← diag_sum q hq v l]
  pointwise [k0_pay92, k0_pay91]
  simp only [hv, Ideal.ofBits_zero_f32]
theorem pay93_at : k0_pay93 V (BitVec.ofNat 32 (64 * q)) o (ix2 z l) = o (ix2 z l) + diagV q v l := by
  rw [← diag_sum q hq v l]
  pointwise [k0_pay93, k0_pay91]
  simp only [hv, Ideal.ofBits_zero_f32]
theorem pay94_at : k0_pay94 V (BitVec.ofNat 32 (64 * q)) o (ix2 z l) = o (ix2 z l) + diagV q v l := by
  rw [← diag_sum q hq v l]
  pointwise [k0_pay94, k0_pay91]
  simp only [hv, Ideal.ofBits_zero_f32]
end

/-- A statistics buffer after the point's store of its tile. -/
theorem stat_done {m : Memref sig .tc .vmem S1x2048 .f32} (f : BufTy.Contents (Elt Ideal) m.view.ty) (L : List (View.Piece (Elt Ideal) S1x2048 .f32))
    (i : grid0.Coords) (v : Fin 64 → EReal) (p : Vec Ideal S1x128 .f32) (o : Vec Ideal S1x2048 .f32)
    (ho : m.view.read (Elt Ideal) (m.view.writes (Elt Ideal) f L) = o)
    (hp : ∀ z l, p (ix2 z l) = View.readAt (Elt Ideal) m.view (Rect.unit (s := S1x2048) (k0_off13 i) S1x128.size (k0_off13_inb i)).toLoadRect (m.view.writes (Elt Ideal) f L) (ix2 z l)
      + diagV ((i 0).val % 2) v l) :
    m.view.read (Elt Ideal) (m.view.writes (Elt Ideal) f (⟨Rect.unit (s := S1x2048) (k0_off13 i) S1x128.size (k0_off13_inb i), p⟩ :: L)) = statB (i 0).val v o := by
  funext j
  obtain ⟨z, l, rfl⟩ : ∃ z l, j = ix2 z l := ⟨j 0, j 1, funext fun a => by match a with | 0 => rfl | 1 => rfl⟩
  have hi : (i 0).val < 32 := (i 0).isLt
  have hl := l.isLt
  obtain rfl : z = 0 := Subsingleton.elim _ _
  by_cases hin : 128 * ((i 0).val / 2) ≤ l.val ∧ l.val < 128 * ((i 0).val / 2) + 128
  · have hlt : l.val - 128 * ((i 0).val / 2) < 128 := by omega
    refine (View.read_writes_cons_unit_of_mem m.view f (k0_off13_inb i) p L (ix2 0 l : S1x2048.Idx) (ix2 0 ⟨l.val - 128 * ((i 0).val / 2), hlt⟩ : S1x128.Idx) (k0_off13_eq i) (fun a => by
      match a with
      | 0 => rfl
      | 1 => show l.val = 128 * ((i 0).val / 2) + (l.val - 128 * ((i 0).val / 2)); omega)).trans ((hp 0 _).trans ?_)
    have hr : View.readAt (Elt Ideal) m.view (Rect.unit (s := S1x2048) (k0_off13 i) S1x128.size (k0_off13_inb i)).toLoadRect (m.view.writes (Elt Ideal) f L) (ix2 0 ⟨l.val - 128 * ((i 0).val / 2), hlt⟩)
        = o (ix2 0 l) := by
      rw [View.readAt_apply, ← ho]
      refine congrArg _ (funext fun a => Fin.ext ?_)
      match a with
      | 0 => show k0_off13 i 0 + 1 * 0 = 0; rw [k0_off13_eq]; rfl
      | 1 =>
        show k0_off13 i 1 + 1 * (l.val - 128 * ((i 0).val / 2)) = l.val; rw [k0_off13_eq]
        show 128 * ((i 0).val / 2) + _ = _; omega
    rw [hr]
    unfold statB diagV
    by_cases hs : 64 * (i 0).val ≤ l.val ∧ l.val < 64 * (i 0).val + 64
    · rw [dif_pos (show 64 * ((i 0).val % 2) ≤ l.val - 128 * ((i 0).val / 2) ∧ l.val - 128 * ((i 0).val / 2) < 64 * ((i 0).val % 2) + 64 by omega),
        dif_pos (show 64 * (i 0).val ≤ ((ix2 (0 : Fin 1) l : S1x2048.Idx) 1).val ∧ ((ix2 (0 : Fin 1) l : S1x2048.Idx) 1).val < 64 * (i 0).val + 64 from hs)]
      refine congrArg (fun x => _ + v x) (Fin.ext ?_)
      show l.val - 128 * ((i 0).val / 2) - 64 * ((i 0).val % 2) = l.val - 64 * (i 0).val
      omega
    · rw [dif_neg (show ¬(64 * ((i 0).val % 2) ≤ l.val - 128 * ((i 0).val / 2) ∧ l.val - 128 * ((i 0).val / 2) < 64 * ((i 0).val % 2) + 64) by omega),
        dif_neg (show ¬(64 * (i 0).val ≤ ((ix2 (0 : Fin 1) l : S1x2048.Idx) 1).val ∧ ((ix2 (0 : Fin 1) l : S1x2048.Idx) 1).val < 64 * (i 0).val + 64) from hs), add_zero]
  · rw [View.read_writes_cons_unit_of_not_mem m.view f _ _ _ _ (k0_off13_eq i) 1 (by
      show l.val < 128 * ((i 0).val / 2) ∨ 128 * ((i 0).val / 2) + 128 ≤ l.val; omega), ho]
    unfold statB
    rw [dif_neg (show ¬(64 * (i 0).val ≤ ((ix2 (0 : Fin 1) l : S1x2048.Idx) 1).val ∧ ((ix2 (0 : Fin 1) l : S1x2048.Idx) 1).val < 64 * (i 0).val + 64) from fun hs => hin (by
      have h1 : 64 * (i 0).val ≤ l.val := hs.1
      have h2 : l.val < 64 * (i 0).val + 64 := hs.2
      omega))]

end Cert.KernelIdeal.KI
-- ==== Proof.KI.RunA.lean ====
/- The kernel body run at the first grid point, with what it leaves in its outputs. -/
module

public import proofs.«01_k».proof.Proof.KI.Block

@[expose] public section

-- membership in a rectangle of production extents (`View.cover_of_tiled`): the elaborator's structural look
-- recurses once per coordinate of the long axes
set_option maxRecDepth 16384

noncomputable section

namespace Cert.KernelIdeal.KI

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- A row of zeros. -/
def zeroRow : Vec Ideal S1x2048 .f32 := fun _ => 0
theorem k0_pay48_eq : k0_pay48 (F := Ideal) = zeroRow := by
  funext j
  obtain ⟨z, l, rfl⟩ : ∃ z l, j = ix2 z l := ⟨j 0, j 1, funext fun a => by match a with | 0 => rfl | 1 => rfl⟩
  pointwise [k0_pay48]; rfl
theorem k0_pay49_eq : k0_pay49 (F := Ideal) = zeroRow := k0_pay48_eq
theorem k0_pay50_eq : k0_pay50 (F := Ideal) = zeroRow := k0_pay48_eq
theorem zeroOff : (![0, 0] : Fin 2 → ℕ) = fun _ => 0 := by decide

theorem read_one {d0 d1 : ℕ} {e : EltTy} (v : View sig .tc .vmem ⟨2, ![d0, d1]⟩ e) (f : v.ty.Contents (Elt Ideal))
    (inb : ∀ a, (![0, 0] : Fin 2 → ℕ) a + (⟨2, ![d0, d1]⟩ : Shape).size a ≤ (⟨2, ![d0, d1]⟩ : Shape).size a) (w : (⟨2, ![d0, d1]⟩ : Shape).Idx → Elt Ideal e) :
    v.read (Elt Ideal) (v.writes (Elt Ideal) f [⟨Rect.unit (s := ⟨2, ![d0, d1]⟩) ![0, 0] (⟨2, ![d0, d1]⟩ : Shape).size inb, w⟩]) = w :=
  funext fun j => View.read_writes_cons_unit_of_mem v f inb w [] j j rfl fun a => by
    match a with
    | 0 => exact (Nat.zero_add _).symm
    | 1 => exact (Nat.zero_add _).symm

theorem read_zeroRow (v : View sig .tc .vmem S1x2048 .f32) (f : v.ty.Contents (Elt Ideal))
    (inb : ∀ a, (![0, 0] : Fin 2 → ℕ) a + S1x2048.size a ≤ S1x2048.size a) {w : S1x2048.Idx → Elt Ideal .f32} (hw : w = zeroRow) :
    v.read (Elt Ideal) (v.writes (Elt Ideal) f [⟨Rect.unit (s := S1x2048) ![0, 0] S1x2048.size inb, w⟩]) = zeroRow := (read_one v f inb w).trans hw

theorem read_wholeW (v : View sig .tc .vmem S1024x128 .bf16) (f : v.ty.Contents (Elt Ideal))
    (inb : ∀ a, (![0, 0] : Fin 2 → ℕ) a + S1024x128.size a ≤ S1024x128.size a) {w : S1024x128.Idx → Elt Ideal .bf16} :
    v.read (Elt Ideal) (v.writes (Elt Ideal) f [⟨Rect.unit (s := S1024x128) ![0, 0] S1024x128.size inb, w⟩]) = w := read_one v f inb w

-- (the run's proof term is large: checking it walks past the default budget)
set_option maxHeartbeats 1000000 in
/-- The body's triple IN CASE A (`scf.if` 0 taken: points 0): on whole staging memrefs — the inputs' at their contents,
    the outputs' at anything (in the later points the statistics' at given rows and the packing matrix's at a given one) —
    the body runs to the continuation holding the inputs' as they were and the outputs' at the blocks' functions: the printed functions are their skeletons (`Gen.*_eq_skeleton`),
    which `sl_exec` runs (Lib/Exec.lean) — each `scf.if` decided by the case's hypotheses `hc·`. -/
theorem kernelRun0_A (c : Dev nD) (i : grid0.Coords) (arg1 : Memref sig .tc .vmem S1x64x8192 .bf16) (harg1 : arg1.IsWhole) (arg2 : Memref sig .tc .vmem S1x64x8192 .bf16) (harg2 : arg2.IsWhole) (arg3 : Memref sig .tc .vmem S1x8192 .f32) (harg3 : arg3.IsWhole) (arg4 : Memref sig .tc .vmem S1x64x8192 .i32) (harg4 : arg4.IsWhole) (arg5 : Memref sig .tc .vmem S1x8192 .f32) (harg5 : arg5.IsWhole) (arg6 : Memref sig .tc .vmem S1x8192 .f32) (harg6 : arg6.IsWhole) (arg7 : Memref sig .tc .vmem S1x64x8192 .fp8e4m3) (harg7 : arg7.IsWhole) (arg8 : Memref sig .tc .vmem S1x2048 .f32) (harg8 : arg8.IsWhole) (arg9 : Memref sig .tc .vmem S1x64x1024 .i8) (harg9 : arg9.IsWhole) (arg10 : Memref sig .tc .vmem S1x2048 .f32) (harg10 : arg10.IsWhole) (arg11 : Memref sig .tc .vmem S1x2048 .f32) (harg11 : arg11.IsWhole) (arg12 : Memref sig .tc .vmem S1x64x8192 .bf16) (harg12 : arg12.IsWhole) (arg13 : Memref sig .tc .vmem S64x8192 .f32) (harg13 : arg13.IsWhole) (arg14 : Memref sig .tc .vmem S512x1024 .bf16) (harg14 : arg14.IsWhole) (arg15 : Memref sig .tc .vmem S1024x128 .bf16) (harg15 : arg15.IsWhole) (hc0 : cond0_0 i)
    (x0 : Vec Ideal S1x64x8192 .bf16) (x1 : Vec Ideal S1x64x8192 .bf16) (x2 : Vec Ideal S1x8192 .f32) (x3 : Vec Ideal S1x64x8192 .i32) (x4 : Vec Ideal S1x8192 .f32) (x5 : Vec Ideal S1x8192 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (codesB x0 x1 x2 x3 x4 x5) ∗ owns (c : Thread nD τ) arg8 fullShare (statB (i 0).val (fun r => kscale (kamax (yrow x0 x1 x2 x3 x4 x5 r))) zeroRow) ∗ owns (c : Thread nD τ) arg9 fullShare (maskB x3 (k0_pay47 (F := Ideal) : Vec Ideal S1024x128 .bf16)) ∗ owns (c : Thread nD τ) arg10 fullShare (statB (i 0).val (fun r => kmean (hrow x0 x1 x2 x3 r)) zeroRow) ∗ owns (c : Thread nD τ) arg11 fullShare (statB (i 0).val (fun r => krstd (hrow x0 x1 x2 x3 r)) zeroRow) ∗ owns (c : Thread nD τ) arg12 fullShare (hB x0 x1 x2 x3) ∗ (∃ d, owns (c : Thread nD τ) arg13 fullShare d) ∗ (∃ d, owns (c : Thread nD τ) arg14 fullShare d) ∗ owns (c : Thread nD τ) arg15 fullShare ((k0_pay47 (F := Ideal) : Vec Ideal S1024x128 .bf16))) -∗ K ⟨⟩))
          ⊢ wp frame (wpE (defs₀ (F := Ideal)) Variants.none c none) E (cc0_dropout_add_ln_fp8 i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
    intro E K
    simp only [cc0_dropout_add_ln_fp8_eq_skeleton]; unfold cc0_dropout_add_ln_fp8_skel
    simp only [k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0)
    have h179 : ∀ i : grid0.Coords, kernelRun0_A.sl.v179 i = BitVec.ofNat 32 (64 * ((i 0).val % 2)) := by decide +kernel
    have hVH := VH_unread harg1 harg2 harg3 harg4 x0 x1 x2 x3
    have hp : ∀ r n, VH (harg1.unread x0) (harg2.unread x1) (harg3.unread x2) (harg4.unread x3) r (col n).val = VH (harg1.unread x0) (harg2.unread x1) (harg3.unread x2) (harg4.unread x3) r n := by
      rw [hVH]; exact hrow_col x0 x1 x2 x3
    have r5 := harg5.read_unread x4
    have r6 := harg6.read_unread x5
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; swap; · iexact H6
      ipureintro
      refine (Chain.codes_eq (Chain.mk rfl rfl rfl rfl rfl rfl) hp r5 r6 harg7 _).trans ?_
      rw [hVH]; rfl
    isplitl [H7]
    · iexists _; isplitr; swap; · iexact H7
      ipureintro
      refine (stat_done _ _ i _ _ _ (read_zeroRow _ _ _ k0_pay48_eq) fun z l => (congrArg (fun w => k0_pay92 _ w _ (ix2 z l)) (h179 i)).trans (pay92_at _ _ (Chain.scale_at (Chain.mk rfl rfl rfl rfl rfl rfl) hp r5 r6) _ (by omega) _ z l)).trans ?_
      rw [hVH]; rfl
    isplitl [H8]
    · iexists _; isplitr; swap; · iexact H8
      ipureintro
      refine (mask_done _ _ _ x3 fun r k => (read_whole2 _ _ _ _).trans ((doneK harg14 _ _ trips1 r k).trans ?_)).trans (congrArg (maskB x3) (View.readCov_unit_zero _ zeroOff _ _))
      unfold VK; rw [harg4.read_unread]
    isplitl [H9]
    · iexists _; isplitr; swap; · iexact H9
      ipureintro
      refine (stat_done _ _ i _ _ _ (read_zeroRow _ _ _ k0_pay49_eq) fun z l => (congrArg (fun w => k0_pay93 _ w _ (ix2 z l)) (h179 i)).trans (pay93_at _ _ (fun r l => v11_at _ trips1 r l) _ (by omega) _ z l)).trans ?_
      rw [hVH]
    isplitl [H10]
    · iexists _; isplitr; swap; · iexact H10
      ipureintro
      refine (stat_done _ _ i _ _ _ (read_zeroRow _ _ _ k0_pay50_eq) fun z l => (congrArg (fun w => k0_pay94 _ w _ (ix2 z l)) (h179 i)).trans (pay94_at _ _ (fun r l => rstd_at harg13 _ _ hp rfl r l) _ (by omega) _ z l)).trans ?_
      rw [hVH]
    isplitl [H11]
    · iexists _; isplitr; swap; · iexact H11
      ipureintro
      exact doneC3 harg12 _ _ trips1 _ fun r j => by rw [hVH]; rfl
    isplitl [HS0]
    · iexists _, _; isplitr; swap; · iexact HS0
      ipureintro; rfl
    isplitl [HS1]
    · iexists _, _; isplitr; swap; · iexact HS1
      ipureintro; rfl
    iexists _; isplitr; swap; · iexact HS2
    ipureintro; exact read_wholeW _ _ _

end Cert.KernelIdeal.KI

end
-- ==== Proof.KI.RunB.lean ====
/- The kernel body run at the every later grid point, with what it leaves in its outputs. -/
module

public import proofs.«01_k».proof.Proof.KI.RunA

@[expose] public section

-- membership in a rectangle of production extents (`View.cover_of_tiled`): the elaborator's structural look
-- recurses once per coordinate of the long axes
set_option maxRecDepth 16384

noncomputable section

namespace Cert.KernelIdeal.KI

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

-- (the run's proof term is large: checking it walks past the default budget)
set_option maxHeartbeats 1000000 in
/-- The body's triple IN CASE B (`scf.if` 0 not taken: points 1, 2, … 31: 31 of 32): on whole staging memrefs — the inputs' at their contents,
    the outputs' at anything (in the later points the statistics' at given rows and the packing matrix's at a given one) —
    the body runs to the continuation holding the inputs' as they were and the outputs' at the blocks' functions: the printed functions are their skeletons (`Gen.*_eq_skeleton`),
    which `sl_exec` runs (Lib/Exec.lean) — each `scf.if` decided by the case's hypotheses `hc·`. -/
theorem kernelRun0_B (c : Dev nD) (i : grid0.Coords) (arg1 : Memref sig .tc .vmem S1x64x8192 .bf16) (harg1 : arg1.IsWhole) (arg2 : Memref sig .tc .vmem S1x64x8192 .bf16) (harg2 : arg2.IsWhole) (arg3 : Memref sig .tc .vmem S1x8192 .f32) (harg3 : arg3.IsWhole) (arg4 : Memref sig .tc .vmem S1x64x8192 .i32) (harg4 : arg4.IsWhole) (arg5 : Memref sig .tc .vmem S1x8192 .f32) (harg5 : arg5.IsWhole) (arg6 : Memref sig .tc .vmem S1x8192 .f32) (harg6 : arg6.IsWhole) (arg7 : Memref sig .tc .vmem S1x64x8192 .fp8e4m3) (harg7 : arg7.IsWhole) (arg8 : Memref sig .tc .vmem S1x2048 .f32) (harg8 : arg8.IsWhole) (arg9 : Memref sig .tc .vmem S1x64x1024 .i8) (harg9 : arg9.IsWhole) (arg10 : Memref sig .tc .vmem S1x2048 .f32) (harg10 : arg10.IsWhole) (arg11 : Memref sig .tc .vmem S1x2048 .f32) (harg11 : arg11.IsWhole) (arg12 : Memref sig .tc .vmem S1x64x8192 .bf16) (harg12 : arg12.IsWhole) (arg13 : Memref sig .tc .vmem S64x8192 .f32) (harg13 : arg13.IsWhole) (arg14 : Memref sig .tc .vmem S512x1024 .bf16) (harg14 : arg14.IsWhole) (arg15 : Memref sig .tc .vmem S1024x128 .bf16) (harg15 : arg15.IsWhole) (hc0 : ¬cond0_0 i)
    (x0 : Vec Ideal S1x64x8192 .bf16) (x1 : Vec Ideal S1x64x8192 .bf16) (x2 : Vec Ideal S1x8192 .f32) (x3 : Vec Ideal S1x64x8192 .i32) (x4 : Vec Ideal S1x8192 .f32) (x5 : Vec Ideal S1x8192 .f32) (o8 o10 o11 : Vec Ideal S1x2048 .f32) (W : Vec Ideal S1024x128 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare (o8) ∗ (∃ d, owns (c : Thread nD τ) arg9 fullShare d) ∗ owns (c : Thread nD τ) arg10 fullShare (o10) ∗ owns (c : Thread nD τ) arg11 fullShare (o11) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare (W)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (codesB x0 x1 x2 x3 x4 x5) ∗ owns (c : Thread nD τ) arg8 fullShare (statB (i 0).val (fun r => kscale (kamax (yrow x0 x1 x2 x3 x4 x5 r))) o8) ∗ owns (c : Thread nD τ) arg9 fullShare (maskB x3 W) ∗ owns (c : Thread nD τ) arg10 fullShare (statB (i 0).val (fun r => kmean (hrow x0 x1 x2 x3 r)) o10) ∗ owns (c : Thread nD τ) arg11 fullShare (statB (i 0).val (fun r => krstd (hrow x0 x1 x2 x3 r)) o11) ∗ owns (c : Thread nD τ) arg12 fullShare (hB x0 x1 x2 x3) ∗ (∃ d, owns (c : Thread nD τ) arg13 fullShare d) ∗ (∃ d, owns (c : Thread nD τ) arg14 fullShare d) ∗ owns (c : Thread nD τ) arg15 fullShare (W)) -∗ K ⟨⟩))
          ⊢ wp frame (wpE (defs₀ (F := Ideal)) Variants.none c none) E (cc0_dropout_add_ln_fp8 i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
    intro E K
    simp only [cc0_dropout_add_ln_fp8_eq_skeleton]; unfold cc0_dropout_add_ln_fp8_skel
    simp only [k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%d8, %f8, -, H8⟩, ⟨%f9, %hf9, H9⟩, ⟨%f10, %hf10, H10⟩, ⟨%d11, %f11, -, H11⟩, ⟨%ds0, %fs0, -, HS0⟩, ⟨%ds1, %fs1, -, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    obtain rfl := harg8.eq_unread hf7; obtain rfl := harg10.eq_unread hf9; obtain rfl := harg11.eq_unread hf10; obtain rfl := harg15.eq_unread hfs2
    sl_exec (disch := first | sl_exact hc0)
    have h179 : ∀ i : grid0.Coords, kernelRun0_B.sl.v179 i = BitVec.ofNat 32 (64 * ((i 0).val % 2)) := by decide +kernel
    have hVH := VH_unread harg1 harg2 harg3 harg4 x0 x1 x2 x3
    have hp : ∀ r n, VH (harg1.unread x0) (harg2.unread x1) (harg3.unread x2) (harg4.unread x3) r (col n).val = VH (harg1.unread x0) (harg2.unread x1) (harg3.unread x2) (harg4.unread x3) r n := by
      rw [hVH]; exact hrow_col x0 x1 x2 x3
    have r5 := harg5.read_unread x4
    have r6 := harg6.read_unread x5
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; swap; · iexact H6
      ipureintro
      refine (Chain.codes_eq (Chain.mk rfl rfl rfl rfl rfl rfl) hp r5 r6 harg7 _).trans ?_
      rw [hVH]; rfl
    isplitl [H7]
    · iexists _; isplitr; swap; · iexact H7
      ipureintro
      refine (stat_done _ _ i _ _ _ (harg8.read_unread _) fun z l => (congrArg (fun w => k0_pay92 _ w _ (ix2 z l)) (h179 i)).trans (pay92_at _ _ (Chain.scale_at (Chain.mk rfl rfl rfl rfl rfl rfl) hp r5 r6) _ (by omega) _ z l)).trans ?_
      rw [hVH]; rfl
    isplitl [H8]
    · iexists _; isplitr; swap; · iexact H8
      ipureintro
      refine (mask_done _ _ _ x3 fun r k => (read_whole2 _ _ _ _).trans ((doneK harg14 _ _ trips1 r k).trans ?_)).trans (congrArg (maskB x3) (funext fun j => (read_whole2 _ _ _ _).trans (congrFun (harg15.read_unread W) j)))
      unfold VK; rw [harg4.read_unread]
    isplitl [H9]
    · iexists _; isplitr; swap; · iexact H9
      ipureintro
      refine (stat_done _ _ i _ _ _ (harg10.read_unread _) fun z l => (congrArg (fun w => k0_pay93 _ w _ (ix2 z l)) (h179 i)).trans (pay93_at _ _ (fun r l => v11_at _ trips1 r l) _ (by omega) _ z l)).trans ?_
      rw [hVH]
    isplitl [H10]
    · iexists _; isplitr; swap; · iexact H10
      ipureintro
      refine (stat_done _ _ i _ _ _ (harg11.read_unread _) fun z l => (congrArg (fun w => k0_pay94 _ w _ (ix2 z l)) (h179 i)).trans (pay94_at _ _ (fun r l => rstd_at harg13 _ _ hp rfl r l) _ (by omega) _ z l)).trans ?_
      rw [hVH]
    isplitl [H11]
    · iexists _; isplitr; swap; · iexact H11
      ipureintro
      exact doneC3 harg12 _ _ trips1 _ fun r j => by rw [hVH]; rfl
    isplitl [HS0]
    · iexists _, _; isplitr; swap; · iexact HS0
      ipureintro; rfl
    isplitl [HS1]
    · iexists _, _; isplitr; swap; · iexact HS1
      ipureintro; rfl
    iexists _; isplitr; swap; · iexact HS2
    ipureintro; exact harg15.read_unread W

end Cert.KernelIdeal.KI

end
-- ==== Proof.KI.Frame.lean ====
/- The run of the idealized kernel: every output array named, the arguments unchanged, every counter at zero. -/
module

public import proofs.«01_k».proof.Proof.KI.RunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.KI

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)
/-! ## What the points leave -/

/-- Row `r` of the residual at point `t`. -/
def hR (c : Dev nD) (t : Fin cfg0.N) (r : Fin 64) : ℕ → EReal := hrow (iblk m c 0 t) (iblk m c 1 t) (iblk m c 2 t) (iblk m c 3 t) r
/-- Row `r` of the normalised block at point `t`. -/
def yR (c : Dev nD) (t : Fin cfg0.N) (r : Fin 64) : ℕ → EReal := yrow (iblk m c 0 t) (iblk m c 1 t) (iblk m c 2 t) (iblk m c 3 t) (iblk m c 4 t) (iblk m c 5 t) r

/-- A row of statistics after point `n`: the values of the points up to `n`, zero beyond. -/
def statA (v : Fin cfg0.N → Fin 64 → EReal) (n : ℕ) : Vec Ideal S1x2048 .f32 := fun j =>
  if (j 1).val < 64 * (n + 1) then v ⟨(j 1).val / 64, by have := (j 1).isLt; show _ < grid0.N; rw [N_0]; have h : (j 1).val < 2048 := (j 1).isLt; omega⟩ ⟨(j 1).val % 64, Nat.mod_lt _ (by decide)⟩ else 0

theorem coords_val : ∀ t : Fin grid0.N, (grid0.coords t 0).val = t.val := by decide +kernel

theorem statA_zero (v : Fin cfg0.N → Fin 64 → EReal) (t : Fin cfg0.N) (h0 : t.val % 32 = 0) : statA v t.val = statB (grid0.coords t 0).val (v t) zeroRow := by
  have hN : t.val < 32 := lt_of_lt_of_eq t.isLt (show cfg0.N = 32 from N_0)
  have h00 : t.val = 0 := by omega
  funext j
  have hj : (j 1).val < 2048 := (j 1).isLt
  unfold statA statB zeroRow
  rw [coords_val]
  by_cases h : (j 1).val < 64
  · rw [if_pos (by omega), dif_pos (by omega), zero_add]
    exact congrArg₂ v (Fin.ext (by show (j 1).val / 64 = t.val; omega)) (Fin.ext (by show (j 1).val % 64 = (j 1).val - 64 * t.val; omega))
  · rw [if_neg (by omega), dif_neg (by omega)]

theorem statA_succ (v : Fin cfg0.N → Fin 64 → EReal) (t : Fin cfg0.N) (h0 : ¬t.val % 32 = 0) : statA v t.val = statB (grid0.coords t 0).val (v t) (statA v (t.val - 1)) := by
  have hN : t.val < 32 := lt_of_lt_of_eq t.isLt (show cfg0.N = 32 from N_0)
  funext j
  have hj : (j 1).val < 2048 := (j 1).isLt
  unfold statA statB
  dsimp only
  rw [coords_val]
  by_cases h : (j 1).val < 64 * t.val
  · rw [if_pos (by omega), dif_neg (by omega), if_pos (by omega)]
  · by_cases h' : (j 1).val < 64 * (t.val + 1)
    · rw [if_pos h', dif_pos (by omega), if_neg (by omega), zero_add]
      exact congrArg₂ v (Fin.ext (by show (j 1).val / 64 = t.val; omega)) (Fin.ext (by show (j 1).val % 64 = (j 1).val - 64 * t.val; omega))
    · rw [if_neg h', dif_neg (by omega), if_neg (by omega)]

/-- The packing matrix: lane `n` of row `k` carries bit `k % 8` where `k / 8 = n`. -/
def wmat : Vec Ideal S1024x128 .bf16 := k0_pay47 (F := Ideal)

/-- The scratch after the first point: the packing matrix holds its constant, the others anything. -/
def ΦB (c : Dev nD) : sProp 𝕄 :=
  iprop(iprop((∃ d, owns (c : Thread nD τ) scM0_0 fullShare d) ∗ (∃ d, owns (c : Thread nD τ) scM0_1 fullShare d) ∗ owns (c : Thread nD τ) scM0_2 fullShare wmat) ∗ (∃ r, prngReg c r))

/-! ## The pipeline's proof data -/

/-- The proof data of the one pipeline on core `c`: the arrays as the region finds them (`V`); after the body at
    point `t` each input's buffer at its block and each output's at the block's function; the invariant the scratch
    at anything before the first point, the packing matrix at its constant afterwards; nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => codesB (iblk m c 0 t) (iblk m c 1 t) (iblk m c 2 t) (iblk m c 3 t) (iblk m c 4 t) (iblk m c 5 t)
    | ⟨7, _⟩ => statA (fun t r => kscale (kamax (yR m c t r))) t.val
    | ⟨8, _⟩ => maskB (iblk m c 3 t) wmat
    | ⟨9, _⟩ => statA (fun t r => kmean (hR m c t r)) t.val
    | ⟨10, _⟩ => statA (fun t r => krstd (hR m c t r)) t.val
    | ⟨11, _⟩ => hB (iblk m c 0 t) (iblk m c 1 t) (iblk m c 2 t) (iblk m c 3 t)
  Φ t := if t.val = 0 then Pipeline.ΦA spec0 c else ΦB c
  q _ := fullShare
  owed _ := 0

/-- The proof data's arrays are the region-entry contents. -/
theorem A_eq (c : Dev nD) (w : Fin cfg0.W) : (dats m 0 c).A w = V m c (Pipeline.arrRef spec0 w) := by
  dsimp only [dats]

theorem Φ_eq (c : Dev nD) (t : Fin (cfg0.N + 1)) : (dats m 0 c).Φ t = if t.val = 0 then Pipeline.ΦA spec0 c else ΦB c := by dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = codesB (iblk m c 0 t) (iblk m c 1 t) (iblk m c 2 t) (iblk m c 3 t) (iblk m c 4 t) (iblk m c 5 t) := by dsimp only [dats]
theorem after0_7 (c : Dev nD) (t : Fin cfg0.N) : (dats m 0 c).after 7 t = statA (fun t r => kscale (kamax (yR m c t r))) t.val := by dsimp only [dats]
theorem after0_8 (c : Dev nD) (t : Fin cfg0.N) : (dats m 0 c).after 8 t = maskB (iblk m c 3 t) wmat := by dsimp only [dats]
theorem after0_9 (c : Dev nD) (t : Fin cfg0.N) : (dats m 0 c).after 9 t = statA (fun t r => kmean (hR m c t r)) t.val := by dsimp only [dats]
theorem after0_10 (c : Dev nD) (t : Fin cfg0.N) : (dats m 0 c).after 10 t = statA (fun t r => krstd (hR m c t r)) t.val := by dsimp only [dats]
theorem after0_11 (c : Dev nD) (t : Fin cfg0.N) : (dats m 0 c).after 11 t = hB (iblk m c 0 t) (iblk m c 1 t) (iblk m c 2 t) (iblk m c 3 t) := by dsimp only [dats]

/-- The statistics' rows after a point from the rows before it. -/
theorem after0_7_A (c : Dev nD) (t : Fin cfg0.N) (h0 : t.val % 32 = 0) : (dats m 0 c).after 7 t = statB (grid0.coords t 0).val (fun r => kscale (kamax (yrow (iblk m c 0 t) (iblk m c 1 t) (iblk m c 2 t) (iblk m c 3 t) (iblk m c 4 t) (iblk m c 5 t) r))) zeroRow := (after0_7 m c t).trans (statA_zero _ t h0)
theorem after0_7_B (c : Dev nD) (t : Fin cfg0.N) (h0 : ¬t.val % 32 = 0) : (dats m 0 c).after 7 t = statB (grid0.coords t 0).val (fun r => kscale (kamax (yrow (iblk m c 0 t) (iblk m c 1 t) (iblk m c 2 t) (iblk m c 3 t) (iblk m c 4 t) (iblk m c 5 t) r))) (statA (fun t r => kscale (kamax (yR m c t r))) (t.val - 1)) := (after0_7 m c t).trans (statA_succ _ t h0)
theorem after0_9_A (c : Dev nD) (t : Fin cfg0.N) (h0 : t.val % 32 = 0) : (dats m 0 c).after 9 t = statB (grid0.coords t 0).val (fun r => kmean (hrow (iblk m c 0 t) (iblk m c 1 t) (iblk m c 2 t) (iblk m c 3 t) r)) zeroRow := (after0_9 m c t).trans (statA_zero _ t h0)
theorem after0_9_B (c : Dev nD) (t : Fin cfg0.N) (h0 : ¬t.val % 32 = 0) : (dats m 0 c).after 9 t = statB (grid0.coords t 0).val (fun r => kmean (hrow (iblk m c 0 t) (iblk m c 1 t) (iblk m c 2 t) (iblk m c 3 t) r)) (statA (fun t r => kmean (hR m c t r)) (t.val - 1)) := (after0_9 m c t).trans (statA_succ _ t h0)
theorem after0_10_A (c : Dev nD) (t : Fin cfg0.N) (h0 : t.val % 32 = 0) : (dats m 0 c).after 10 t = statB (grid0.coords t 0).val (fun r => krstd (hrow (iblk m c 0 t) (iblk m c 1 t) (iblk m c 2 t) (iblk m c 3 t) r)) zeroRow := (after0_10 m c t).trans (statA_zero _ t h0)
theorem after0_10_B (c : Dev nD) (t : Fin cfg0.N) (h0 : ¬t.val % 32 = 0) : (dats m 0 c).after 10 t = statB (grid0.coords t 0).val (fun r => krstd (hrow (iblk m c 0 t) (iblk m c 1 t) (iblk m c 2 t) (iblk m c 3 t) r)) (statA (fun t r => krstd (hR m c t r)) (t.val - 1)) := (after0_10 m c t).trans (statA_succ _ t h0)

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
/-- A statistics buffer at a later point holds what the point before left. -/
theorem before0_7 (c : Dev nD) (t : Fin cfg0.N) (h0 : ¬t.val % 32 = 0) (d) : (dats m 0 c).before 7 t d = statA (fun t r => kscale (kamax (yR m c t r))) (t.val - 1) := by
  have hN : t.val < 32 := lt_of_lt_of_eq t.isLt (show cfg0.N = 32 from N_0)
  rw [(dats m 0 c).before_out_kept 7 rfl t (by omega) (by
    refine Bool.eq_false_iff.mpr fun h => ?_
    have := (flush0_7 _).mp h
    dsimp only at this
    omega) (fun _ => rfl) (fun _ _ => rfl) d, after0_7]
theorem before0_9 (c : Dev nD) (t : Fin cfg0.N) (h0 : ¬t.val % 32 = 0) (d) : (dats m 0 c).before 9 t d = statA (fun t r => kmean (hR m c t r)) (t.val - 1) := by
  have hN : t.val < 32 := lt_of_lt_of_eq t.isLt (show cfg0.N = 32 from N_0)
  rw [(dats m 0 c).before_out_kept 9 rfl t (by omega) (by
    refine Bool.eq_false_iff.mpr fun h => ?_
    have := (flush0_9 _).mp h
    dsimp only at this
    omega) (fun _ => rfl) (fun _ _ => rfl) d, after0_9]
theorem before0_10 (c : Dev nD) (t : Fin cfg0.N) (h0 : ¬t.val % 32 = 0) (d) : (dats m 0 c).before 10 t d = statA (fun t r => krstd (hR m c t r)) (t.val - 1) := by
  have hN : t.val < 32 := lt_of_lt_of_eq t.isLt (show cfg0.N = 32 from N_0)
  rw [(dats m 0 c).before_out_kept 10 rfl t (by omega) (by
    refine Bool.eq_false_iff.mpr fun h => ?_
    have := (flush0_10 _).mp h
    dsimp only at this
    omega) (fun _ => rfl) (fun _ _ => rfl) d, after0_10]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t))

set_option maxHeartbeats 2400000 in
/-- The body at any point: the first point's run or a later point's, each input at its block, the invariant handing the
    scratch over and taking it back. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5, after0_6, after0_8, after0_11]
  rw [show (dats m 0 c).Φ t.succ = ΦB c from (Φ_eq m c _).trans <| if_neg (Nat.succ_ne_zero t.val)]
  have hN : t.val < 32 := lt_of_lt_of_eq t.isLt (show cfg0.N = 32 from N_0)
  by_cases h0 : t.val % 32 = 0
  · rw [show (dats m 0 c).Φ t.castSucc = Pipeline.ΦA spec0 c from (Φ_eq m c _).trans <| if_pos (show t.val = 0 by omega), PhiA0_eq, after0_7_A m c t h0, after0_9_A m c t h0, after0_10_A m c t h0]
    unfold ΦB
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((kernelRun0_A c (grid0.coords t) _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [HS0]; · iexact HS0
    isplitl [HS1]; · iexact HS1
    isplitl [HS2]; · iexact HS2
    iintro ⟨H0, H1, H2, H3, H4, H5, H6, H7, H8, H9, H10, H11, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · rw [show (dats m 0 c).Φ t.castSucc = ΦB c from (Φ_eq m c _).trans <| if_neg (show ¬t.val = 0 by omega), after0_7_B m c t h0, after0_9_B m c t h0, after0_10_B m c t h0]
    simp only [before0_7 m c t h0, before0_9 m c t h0, before0_10 m c t h0]
    unfold ΦB
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((kernelRun0_B c (grid0.coords t) _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (statA (fun t r => kscale (kamax (yR m c t r))) (t.val - 1)) (statA (fun t r => kmean (hR m c t r)) (t.val - 1)) (statA (fun t r => krstd (hR m c t r)) (t.val - 1)) wmat) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexists _; iexact H8
    isplitl [H9]; · iexact H9
    isplitl [H10]; · iexact H10
    isplitl [H11]; · iexists _; iexact H11
    isplitl [HS0]; · iexact HS0
    isplitl [HS1]; · iexact HS1
    isplitl [HS2]; · iexact HS2
    iintro ⟨H0, H1, H2, H3, H4, H5, H6, H7, H8, H9, H10, H11, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-! ## The run and the frame -/

theorem Φ_in (c : Dev nD) : Pipeline.ΦA spec0 c ⊢ (dats m 0 c).Φ 0 := by
  rw [show (dats m 0 c).Φ 0 = Pipeline.ΦA spec0 c from (Φ_eq m c _).trans <| if_pos rfl]
theorem Φ_out (c : Dev nD) : (dats m 0 c).Φ (Fin.last cfg0.N) ⊢ Pipeline.ΦA spec0 c := by
  rw [show (dats m 0 c).Φ (Fin.last cfg0.N) = ΦB c from (Φ_eq m c _).trans <| if_neg (by show ¬grid0.N = 0; rw [N_0]; decide), PhiA0_eq]
  unfold ΦB
  iintro ⟨⟨HS0, HS1, HS2⟩, Hg⟩
  isplitl [HS0 HS1 HS2]
  · isplitl [HS0]; · iexact HS0
    isplitl [HS1]; · iexact HS1
    iexists _; iexact HS2
  iexact Hg

set_option backward.isDefEq.respectTransparency.types false in
/-- The launch: the run's arrays, and every semaphore counter of the machine at zero at every final state. -/
theorem run_main_quiescent : θ_run defs (onTc (τ := τ) (main (F := Ideal))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := Φ_in m) (hout := Φ_out m)

/-- Every final state has every windowed array at its contents after the last write-back. -/
theorem run_main : θ_run defs (onTc (τ := τ) (main (F := Ideal))) (s₀ m ρ) (Pipeline.FramePost cfgs (dats m) 0 (V m)) :=
  (θ_run defs _ _).mono (fun _ h => h.1) (run_main_quiescent m ρ)

/-- The frame: the arguments end unchanged, every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.KernelIdeal.KI

end
-- ==== Proof.KI.Arrays.lean ====
/-
  What the kernel's six result arrays hold after the run, as functions of the argument arrays: every block read at
  its place in its array, and the arrays put together from the blocks written.
-/
module

public import proofs.«01_k».proof.Proof.KI.Frame
public import Idealize.ShloMosaic.Lib.Pipeline.ValueKit
public import Idealize.ShloMosaic.Lib.StableHlo.RunRead

@[expose] public section

set_option maxRecDepth 16384

noncomputable section

namespace Cert.KernelIdeal.KI

open Idealize.ShloMosaic Idealize.ShloMosaic.TcCoe Idealize.ShloMosaic.Tactic
open Idealize.ShloMosaic.Pipeline (Dat Cfg Window)
open Cert.KernelIdeal Cert.KernelIdeal.Gen

/-! ## The rows, as functions of the arguments -/

/-- Row `R` of the residual. -/
def gh (x a : Vec Ideal S1x2048x8192 .bf16) (b : Vec Ideal S8192 .f32) (w : Vec Ideal S1x2048x8192 .i32) (R : Fin 2048) (n : ℕ) : EReal :=
  hval (x (ix3 0 R (col n))) (a (ix3 0 R (col n))) (b (ix1 (col n))) (w (ix3 0 R (col n)))
/-- A parameter row as a function of the lane. -/
def gp (p : Vec Ideal S8192 .f32) (n : ℕ) : EReal := p (ix1 (col n))
/-- Row `R` normalised. -/
def gy (x a : Vec Ideal S1x2048x8192 .bf16) (b : Vec Ideal S8192 .f32) (w : Vec Ideal S1x2048x8192 .i32) (g o : Vec Ideal S8192 .f32) (R : Fin 2048) : ℕ → EReal :=
  ky (gh x a b w R) (gp g) (gp o)
/-- Byte `n` of a row of the mask, from the row's keep flags. -/
def kbyte (k : ℕ → EReal) (n : ℕ) : BitVec 8 :=
  BitVec.setWidth 8 (FloatOps.fptosi (F := Ideal) (φ := .f32) 32 (∑ i : Fin 1024, k (1024 * (n / 128) + i.val) * wmat (ix2 i ⟨n % 128, Nat.mod_lt _ (by decide)⟩)))

/-- Row `r` of block `t` in the array. -/
def rowOf (t : Fin cfg0.N) (r : Fin 64) : Fin 2048 := ⟨64 * t.val + r.val, by
  have : t.val < 32 := lt_of_lt_of_eq t.isLt (show cfg0.N = 32 from N_0)
  omega⟩

variable (m : (ℓ : Loc nD τ sig) → Buf (Elt Ideal) ℓ) (c : Dev nD)

theorem index_row : ∀ t : Fin cfg0.N, win0_0.index t = ![0, t.val, 0] ∧ win0_1.index t = ![0, t.val, 0] ∧ win0_3.index t = ![0, t.val, 0] ∧ win0_6.index t = ![0, t.val, 0]
    ∧ win0_8.index t = ![0, t.val, 0] ∧ win0_11.index t = ![0, t.val, 0] :=
  (by decide +kernel : ∀ t : Fin grid0.N, _)
theorem index_par : ∀ t : Fin cfg0.N, win0_2.index t = ![0, 0] ∧ win0_4.index t = ![0, 0] ∧ win0_5.index t = ![0, 0] :=
  (by decide +kernel : ∀ t : Fin grid0.N, _)

theorem iblk0_at (t : Fin cfg0.N) (r : Fin 64) (l : Fin 8192) : iblk m c 0 t (ix3 0 r l) = (m ((c : Thread nD τ).loc main_arg0) : Vec Ideal S1x2048x8192 .bf16) (ix3 0 (rowOf t r) l) := by
  rw [← V_main_arg0 m c]
  blk_simp [iblk]
  congr 1
  blk_ext [(index_row t).1, rowOf]

theorem iblk1_at (t : Fin cfg0.N) (r : Fin 64) (l : Fin 8192) : iblk m c 1 t (ix3 0 r l) = (m ((c : Thread nD τ).loc main_arg1) : Vec Ideal S1x2048x8192 .bf16) (ix3 0 (rowOf t r) l) := by
  rw [← V_main_arg1 m c]
  blk_simp [iblk]
  congr 1
  blk_ext [(index_row t).2.1, rowOf]
theorem iblk3_at (t : Fin cfg0.N) (r : Fin 64) (l : Fin 8192) : iblk m c 3 t (ix3 0 r l) = (m ((c : Thread nD τ).loc main_arg3) : Vec Ideal S1x2048x8192 .i32) (ix3 0 (rowOf t r) l) := by
  rw [← V_main_arg3 m c]
  blk_simp [iblk]
  congr 1
  blk_ext [(index_row t).2.2.1, rowOf]

theorem row_reshape (p : Vec Ideal S8192 .f32) (l : Fin 8192) : shapeCast S1x8192 p shapeCasts_S8192_S1x8192 (ix2 0 l) = p (ix1 l) := by
  pointwise
theorem V_par2 : V m c main_v0 = shapeCast S1x8192 (m ((c : Thread nD τ).loc main_arg2) : Vec Ideal S8192 .f32) shapeCasts_S8192_S1x8192 := by
  unfold V
  after_reads_simp
  rfl
theorem iblk2_at (t : Fin cfg0.N) (l : Fin 8192) : iblk m c 2 t (ix2 0 l) = (m ((c : Thread nD τ).loc main_arg2) : Vec Ideal S8192 .f32) (ix1 l) := by
  refine Eq.trans ?_ (row_reshape _ l)
  rw [← V_par2 m c]
  blk_simp [iblk]
  congr 1
  blk_ext [(index_par t).1]
theorem V_par4 : V m c main_v1 = shapeCast S1x8192 (m ((c : Thread nD τ).loc main_arg4) : Vec Ideal S8192 .f32) shapeCasts_S8192_S1x8192 := by
  unfold V
  after_reads_simp
  rfl
theorem iblk4_at (t : Fin cfg0.N) (l : Fin 8192) : iblk m c 4 t (ix2 0 l) = (m ((c : Thread nD τ).loc main_arg4) : Vec Ideal S8192 .f32) (ix1 l) := by
  refine Eq.trans ?_ (row_reshape _ l)
  rw [← V_par4 m c]
  blk_simp [iblk]
  congr 1
  blk_ext [(index_par t).2.1]
theorem V_par5 : V m c main_v2 = shapeCast S1x8192 (m ((c : Thread nD τ).loc main_arg5) : Vec Ideal S8192 .f32) shapeCasts_S8192_S1x8192 := by
  unfold V
  after_reads_simp
  rfl
theorem iblk5_at (t : Fin cfg0.N) (l : Fin 8192) : iblk m c 5 t (ix2 0 l) = (m ((c : Thread nD τ).loc main_arg5) : Vec Ideal S8192 .f32) (ix1 l) := by
  refine Eq.trans ?_ (row_reshape _ l)
  rw [← V_par5 m c]
  blk_simp [iblk]
  congr 1
  blk_ext [(index_par t).2.2]

/-! ## The blocks' rows -/

/-- Row `R` of the residual, of the launch's arguments. -/
def argH (R : Fin 2048) : ℕ → EReal := gh (m ((c : Thread nD τ).loc main_arg0)) (m ((c : Thread nD τ).loc main_arg1)) (m ((c : Thread nD τ).loc main_arg2)) (m ((c : Thread nD τ).loc main_arg3)) R
/-- Row `R` normalised, of the launch's arguments. -/
def argY (R : Fin 2048) : ℕ → EReal := gy (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) R
/-- The keep flags of row `R`, of the launch's arguments. -/
def argK (R : Fin 2048) (n : ℕ) : EReal := kval ((m ((c : Thread nD τ).loc main_arg3) : Vec Ideal S1x2048x8192 .i32) (ix3 0 R (col n)))

theorem hR_eq (t : Fin cfg0.N) (r : Fin 64) : hR m c t r = argH m c (rowOf t r) := by
  funext n
  unfold hR hrow argH gh
  rw [iblk0_at, iblk1_at, iblk2_at, iblk3_at]

theorem yR_eq (t : Fin cfg0.N) (r : Fin 64) : yR m c t r = argY m c (rowOf t r) := by
  have h := hR_eq m c t r
  unfold hR at h
  unfold yR yrow
  rw [h]
  have e4 : prow (iblk m c 4 t) = gp (m ((c : Thread nD τ).loc main_arg4)) := funext fun n => iblk4_at m c t (col n)
  have e5 : prow (iblk m c 5 t) = gp (m ((c : Thread nD τ).loc main_arg5)) := funext fun n => iblk5_at m c t (col n)
  rw [e4, e5]
  rfl

/-! ## The arrays -/

theorem final6 : (dats m 0 c).arrAt 6 cfg0.N = (fun j => kcode (argY m c (j 1)) (j 2).val : Vec Ideal S1x2048x8192 .fp8e4m3) := by
  refine (dats m 0 c).arrAt_eq_of_covers 6 _ (by decide +kernel) fun t hf y => ?_
  blk_simp
  rw [after0_6]
  have e := yR_eq m c t (y 1)
  unfold yR at e
  unfold codesB
  dsimp only
  rw [e]
  have hr : rowOf t (y 1) = ((View.whole main_v3_0).slice (win0_6.rect t)).emb y 1 := by
    apply Fin.ext
    blk_simp [(index_row t).2.2.2.1, rowOf]
    simp only [Matrix.cons_val_one, Matrix.cons_val_zero]
    omega
  have hn : win0_6.index t 2 * 8192 + (y 2).val = (y 2).val := by
    rw [(index_row t).2.2.2.1]
    show 0 * 8192 + _ = _
    omega
  rw [← hr, hn]

theorem final11 : (dats m 0 c).arrAt 11 cfg0.N = (fun j => argH m c (j 1) (j 2).val : Vec Ideal S1x2048x8192 .bf16) := by
  refine (dats m 0 c).arrAt_eq_of_covers 11 _ (by decide +kernel) fun t hf y => ?_
  blk_simp
  rw [after0_11]
  have e := hR_eq m c t (y 1)
  unfold hR at e
  unfold hB
  dsimp only
  rw [e]
  have hr : rowOf t (y 1) = ((View.whole main_v3_5).slice (win0_11.rect t)).emb y 1 := by
    apply Fin.ext
    blk_simp [(index_row t).2.2.2.2.2, rowOf]
    simp only [Matrix.cons_val_one, Matrix.cons_val_zero]
    omega
  have hn : win0_11.index t 2 * 8192 + (y 2).val = (y 2).val := by
    rw [(index_row t).2.2.2.2.2]
    show 0 * 8192 + _ = _
    omega
  rw [← hr, hn]

theorem final8 : (dats m 0 c).arrAt 8 cfg0.N = (fun j => kbyte (argK m c (j 1)) (j 2).val : Vec Ideal S1x2048x1024 .i8) := by
  refine (dats m 0 c).arrAt_eq_of_covers 8 _ (by decide +kernel) fun t hf y => ?_
  blk_simp
  rw [after0_8]
  unfold maskB
  dsimp only
  have hr : rowOf t (y 1) = ((View.whole main_v3_2).slice (win0_8.rect t)).emb y 1 := by
    apply Fin.ext
    blk_simp [(index_row t).2.2.2.2.1, rowOf]
    simp only [Matrix.cons_val_one, Matrix.cons_val_zero]
    omega
  have hn : win0_8.index t 2 * 1024 + (y 2).val = (y 2).val := by
    rw [(index_row t).2.2.2.2.1]
    show 0 * 1024 + _ = _
    omega
  rw [← hr, hn]
  exact congrArg (fun s => BitVec.setWidth 8 (FloatOps.fptosi (F := Ideal) (φ := .f32) 32 s)) (Finset.sum_congr rfl fun k _ =>
    congrArg (· * _) (congrArg kval (iblk3_at m c t (y 1) _)))

theorem stat_last (v : Fin cfg0.N → Fin 64 → EReal) (f : Fin 2048 → EReal) (h : ∀ t r, v t r = f (rowOf t r)) (j : S1x2048.Idx) :
    statA v 31 j = f (j 1) := by
  have hj : (j 1).val < 2048 := (j 1).isLt
  unfold statA
  rw [if_pos (by omega), h]
  exact congrArg f (Fin.ext (by show 64 * ((j 1).val / 64) + (j 1).val % 64 = (j 1).val; omega))

/-- The last point. -/
def tLast : Fin cfg0.N := ⟨31, by show 31 < grid0.N; rw [N_0]; decide⟩

theorem final7 : (dats m 0 c).arrAt 7 cfg0.N = (fun j => kscale (kamax (argY m c (j 1))) : Vec Ideal S1x2048 .f32) := by
  refine (dats m 0 c).arrAt_eq_of_after_last 7 tLast (by decide +kernel) _ fun j => ?_
  blk_simp
  rw [after0_7]
  refine (stat_last _ (fun R => kscale (kamax (argY m c R))) (fun t r => ?_) _).trans ?_
  · rw [yR_eq]
  · rfl

theorem final9 : (dats m 0 c).arrAt 9 cfg0.N = (fun j => kmean (argH m c (j 1)) : Vec Ideal S1x2048 .f32) := by
  refine (dats m 0 c).arrAt_eq_of_after_last 9 tLast (by decide +kernel) _ fun j => ?_
  blk_simp
  rw [after0_9]
  refine (stat_last _ (fun R => kmean (argH m c R)) (fun t r => ?_) _).trans ?_
  · rw [hR_eq]
  · rfl

theorem final10 : (dats m 0 c).arrAt 10 cfg0.N = (fun j => krstd (argH m c (j 1)) : Vec Ideal S1x2048 .f32) := by
  refine (dats m 0 c).arrAt_eq_of_after_last 10 tLast (by decide +kernel) _ fun j => ?_
  blk_simp
  rw [after0_10]
  refine (stat_last _ (fun R => krstd (argH m c R)) (fun t r => ?_) _).trans ?_
  · rw [hR_eq]
  · rfl

end Cert.KernelIdeal.KI
-- ==== Proof.RI.Stages.lean ====
/-
  The reference's host operations, stage by stage: what the buffers that matter hold when the last operation (the cast
  to fp8, a kernel of its own) is entered, each as one expression of the arguments and of the stages before it.
-/
module

public import proofs.«01_k».proof.Proof.KI.Arrays
public import proofs.«01_k».proof.Proof.Gen.ReferenceIdeal.Frame
public import Idealize.ShloMosaic.Lib.StableHlo.RunRead

@[expose] public section

set_option maxRecDepth 16384

noncomputable section

namespace Cert.ReferenceIdeal.RI

open Idealize.ShloMosaic Idealize.ShloMosaic.TcCoe Idealize.ShloMosaic.Tactic
open Idealize.ShloMosaic.StableHlo
open Cert.ReferenceIdeal.Gen

variable {F : FTy → Type} [FloatOps F]
variable (m : (ℓ : Loc nD τ sig) → Buf (Elt F) ℓ) (c : Dev nD)

/-- What the buffers hold before the scale is chosen. -/
def W (c : Dev nD) : Valuation τ sig (Elt F) := after (hostOps0 ++ hostOps0_1 ++ hostOps0_2 ++ hostOps0_3) (fun b => m (c, b))

/-- The operations in two halves, cut before the scale is chosen. -/
theorem V_cut (b : Ref sig .tc) : V m c b = after hostOps0_8 (after hostOps0_7 (after hostOps0_6 (after hostOps0_5 (after hostOps0_4
    (W m c))))) (Proc.devRef .tc b) := by
  unfold V W
  simp only [List.flatten_cons, List.flatten_nil, List.append_nil, after_append]

/-- The bit that keeps an element. -/
theorem V_v1 : V m c main_v1 = cmpi .uge (m ((c : Thread nD τ).loc main_arg3) : Vec F S1x2048x8192 .i32) (broadcastInDim S1x2048x8192 ![] bcast_S_S1x2048x8192 (constantI S_ 32 429496730#32)) := by
  unfold V
  simp only [List.flatten_cons, List.flatten_nil, List.append_nil]
  after_reads_simp

/-- The sum after dropout. -/
theorem V_v11 : V m c main_v11 = truncf .bf16 (addf (extf .f32 (m ((c : Thread nD τ).loc main_arg0) : Vec F S1x2048x8192 .bf16) bitsLt_bf16_f32) (select (V m c main_v1 : IVec S1x2048x8192 1) (mulf (addf (extf .f32 (m ((c : Thread nD τ).loc main_arg1) : Vec F S1x2048x8192 .bf16) bitsLt_bf16_f32) (broadcastInDim S1x2048x8192 ![0, 1, 2] bcast_S1x1x8192_S1x2048x8192_0_1_2 (broadcastInDim S1x1x8192 ![2] bcast_S8192_S1x1x8192_2 (m ((c : Thread nD τ).loc main_arg2) : Vec F S8192 .f32)))) (broadcastInDim S1x2048x8192 ![] bcast_S_S1x2048x8192 (constant S_ .f32 0x3F8E38E4#32))) (broadcastInDim S1x2048x8192 ![] bcast_S_S1x2048x8192 (id (constant S_ .f32 0x00000000#32))))) bitsLt_bf16_f32 := by
  unfold V
  simp only [List.flatten_cons, List.flatten_nil, List.append_nil]
  after_reads_simp
  rfl

/-- The sum after dropout, read back. -/
theorem V_v12 : V m c main_v12 = extf .f32 (V m c main_v11 : Vec F S1x2048x8192 .bf16) bitsLt_bf16_f32 := by
  unfold V
  simp only [List.flatten_cons, List.flatten_nil, List.append_nil]
  after_reads_simp

/-- The mean of a row. -/
theorem V_v15 : V m c main_v15 = Host.divf (Host.reduceAdd (V m c main_v12 : Vec F S1x2048x8192 .f32) (constant S_ .f32 0x00000000#32) reducesTo_S1x2048x8192_S1x2048_d2 h_S_) (broadcastInDim S1x2048 ![] bcast_S_S1x2048 (constant S_ .f32 0x46000000#32)) := by
  unfold V
  simp only [List.flatten_cons, List.flatten_nil, List.append_nil]
  after_reads_simp

/-- A row less its mean. -/
theorem V_v18 : V m c main_v18 = subf (V m c main_v12 : Vec F S1x2048x8192 .f32) (broadcastInDim S1x2048x8192 ![0, 1, 2] bcast_S1x2048x1_S1x2048x8192_0_1_2 (broadcastInDim S1x2048x1 ![0, 1] bcast_S1x2048_S1x2048x1_0_1 (V m c main_v15 : Vec F S1x2048 .f32))) := by
  unfold V
  simp only [List.flatten_cons, List.flatten_nil, List.append_nil]
  after_reads_simp

/-- One over the standard deviation of a row. -/
theorem V_v25 : V m c main_v25 = Host.rsqrt (addf (Host.divf (Host.reduceAdd (mulf (V m c main_v18 : Vec F S1x2048x8192 .f32) (V m c main_v18 : Vec F S1x2048x8192 .f32)) (constant S_ .f32 0x00000000#32) reducesTo_S1x2048x8192_S1x2048_d2 h_S_) (broadcastInDim S1x2048 ![] bcast_S_S1x2048 (constant S_ .f32 0x46000000#32))) (broadcastInDim S1x2048 ![] bcast_S_S1x2048 (constant S_ .f32 0x3727C5AC#32))) := by
  unfold V
  simp only [List.flatten_cons, List.flatten_nil, List.append_nil]
  after_reads_simp

/-- The normalised row. -/
theorem V_v34 : V m c main_v34 = addf (mulf (mulf (V m c main_v18 : Vec F S1x2048x8192 .f32) (broadcastInDim S1x2048x8192 ![0, 1, 2] bcast_S1x2048x1_S1x2048x8192_0_1_2 (broadcastInDim S1x2048x1 ![0, 1] bcast_S1x2048_S1x2048x1_0_1 (V m c main_v25 : Vec F S1x2048 .f32)))) (broadcastInDim S1x2048x8192 ![0, 1, 2] bcast_S1x1x8192_S1x2048x8192_0_1_2 (broadcastInDim S1x1x8192 ![2] bcast_S8192_S1x1x8192_2 (m ((c : Thread nD τ).loc main_arg4) : Vec F S8192 .f32)))) (broadcastInDim S1x2048x8192 ![0, 1, 2] bcast_S1x1x8192_S1x2048x8192_0_1_2 (broadcastInDim S1x1x8192 ![2] bcast_S8192_S1x1x8192_2 (m ((c : Thread nD τ).loc main_arg5) : Vec F S8192 .f32))) := by
  unfold V
  simp only [List.flatten_cons, List.flatten_nil, List.append_nil]
  after_reads_simp

/-- The largest magnitude of a row over the largest fp8 number. -/
theorem V_v38 : V m c main_v38 = mulf (Host.reduce FloatOps.maximumf (Host.absf (V m c main_v34 : Vec F S1x2048x8192 .f32)) (constant S_ .f32 0xFF800000#32) reducesTo_S1x2048x8192_S1x2048_d2 h_S_) (broadcastInDim S1x2048 ![] bcast_S_S1x2048 (constant S_ .f32 0x3B124925#32)) := by
  unfold V
  simp only [List.flatten_cons, List.flatten_nil, List.append_nil]
  after_reads_simp

/-- The powers of two above that, infinity for the others. -/
theorem V_v44 : V m c main_v44 = select (cmpf .olt (broadcastInDim S1x2048x247 ![0, 1, 2] bcast_S1x2048x1_S1x2048x247_0_1_2 (broadcastInDim S1x2048x1 ![0, 1] bcast_S1x2048_S1x2048x1_0_1 (V m c main_v38 : Vec F S1x2048 .f32))) (broadcastInDim S1x2048x247 ![0, 1, 2] bcast_S1x1x247_S1x2048x247_0_1_2 (broadcastInDim S1x1x247 ![2] bcast_S247_S1x1x247_2 (fun i => FloatOps.ofBits .f32 (lit0 (S247.rowMajor i)) : Vec F S247 .f32)))) (broadcastInDim S1x2048x247 ![2] bcast_S247_S1x2048x247_2 (fun i => FloatOps.ofBits .f32 (lit0 (S247.rowMajor i)) : Vec F S247 .f32)) (broadcastInDim S1x2048x247 ![] bcast_S_S1x2048x247 (id (constant S_ .f32 0x7F800000#32))) := by
  unfold V
  simp only [List.flatten_cons, List.flatten_nil, List.append_nil]
  after_reads_simp
  rfl

/-- The scale of a row. -/
theorem V_v51 : V m c main_v51 = select (andi (cmpf .oge (V m c main_v38 : Vec F S1x2048 .f32) (broadcastInDim S1x2048 ![] bcast_S_S1x2048 (constant S_ .f32 0x00800000#32))) (cmpf .olt (V m c main_v38 : Vec F S1x2048 .f32) (broadcastInDim S1x2048 ![] bcast_S_S1x2048 (constant S_ .f32 0x7B800000#32)))) (Host.reduce FloatOps.minimumf (V m c main_v44 : Vec F S1x2048x247 .f32) (constant S_ .f32 0x7F800000#32) reducesTo_S1x2048x247_S1x2048_d2 h_S_) (broadcastInDim S1x2048 ![] bcast_S_S1x2048 (id (constant S_ .f32 0x3F800000#32))) := by
  rw [V_cut m c main_v51, V_cut m c main_v38, V_cut m c main_v44]
  generalize W m c = W0
  after_reads_simp
  generalize Host.reduce (FloatOps.minimumf (F := F) (φ := .f32)) _ _ _ _ = Z
  generalize andi _ _ = Y
  rfl

/-- The scaled and clipped row. -/
theorem V_v57 : V m c main_v57 = minimumf (broadcastInDim S1x2048x8192 ![] bcast_S_S1x2048x8192 (id (constant S_ .f32 0x43E00000#32))) (maximumf (broadcastInDim S1x2048x8192 ![] bcast_S_S1x2048x8192 (id (constant S_ .f32 0xC3E00000#32))) (mulf (V m c main_v34 : Vec F S1x2048x8192 .f32) (broadcastInDim S1x2048x8192 ![0, 1, 2] bcast_S1x2048x1_S1x2048x8192_0_1_2 (broadcastInDim S1x2048x1 ![0, 1] bcast_S1x2048_S1x2048x1_0_1 (Host.divf (broadcastInDim S1x2048 ![] bcast_S_S1x2048 (constant S_ .f32 0x3F800000#32)) (V m c main_v51 : Vec F S1x2048 .f32)))))) := by
  rw [V_cut m c main_v57, V_cut m c main_v34, V_cut m c main_v51]
  generalize W m c = W0
  after_reads_simp
  rfl

/-- The packed mask. -/
theorem V_v65 : V m c main_v65 = trunci 8 (Host.reduce IntOp.addi (Host.shli (extui 32 (shapeCast S1x2048x1024x8 (V m c main_v1 : IVec S1x2048x8192 1) shapeCasts_S1x2048x8192_S1x2048x1024x8) natLt_1_32) (broadcastInDim S1x2048x1024x8 ![0, 1, 2, 3] bcast_S1x1x1x8_S1x2048x1024x8_0_1_2_3 (broadcastInDim S1x1x1x8 ![3] bcast_S8_S1x1x1x8_3 (iotaInDim S8 32 0)))) (constantI S_ 32 0#32) reducesTo_S1x2048x1024x8_S1x2048x1024_d3 h_S_) natLt_8_32 := by
  rw [V_cut m c main_v65, V_cut m c main_v1]
  generalize W m c = W0
  after_reads_simp
  rfl

end Cert.ReferenceIdeal.RI
-- ==== Proof.RI.HostFold.lean ====
/-
  A host reduction by maximum, minimum or integer addition over the last axis, read at an index: a fold along the axis.
-/
module

public import proofs.«01_k».proof.Proof.RI.Stages
public import Idealize.ShloMosaic.Lib.Pointwise

@[expose] public section

noncomputable section

namespace Cert.ReferenceIdeal.RI

open Idealize.ShloMosaic

variable {n0 n1 n2 n3 : ℕ}

theorem hostMax (v : FVec Ideal ⟨3, ![n0, n1, n2]⟩ .f32) (c : FVec Ideal ⟨0, ![]⟩ .f32)
    (h : (⟨3, ![n0, n1, n2]⟩ : Shape).ReducesTo [2] ⟨2, ![n0, n1]⟩) (hu : 0 < (⟨0, ![]⟩ : Shape).numel) (a : Fin n0) (b : Fin n1) :
    Host.reduce FloatOps.maximumf v c h hu (ix2 a b) = Finset.univ.fold max (c (Shape.Idx.first hu)) fun k : Fin n2 => v (ix3 a b k) :=
  (Host.reduce_eq_fold ..).trans (h.fold_fiber_r3_a2 ..)

theorem hostMin (v : FVec Ideal ⟨3, ![n0, n1, n2]⟩ .f32) (c : FVec Ideal ⟨0, ![]⟩ .f32)
    (h : (⟨3, ![n0, n1, n2]⟩ : Shape).ReducesTo [2] ⟨2, ![n0, n1]⟩) (hu : 0 < (⟨0, ![]⟩ : Shape).numel) (a : Fin n0) (b : Fin n1) :
    Host.reduce FloatOps.minimumf v c h hu (ix2 a b) = Finset.univ.fold min (c (Shape.Idx.first hu)) fun k : Fin n2 => v (ix3 a b k) :=
  (Host.reduce_eq_fold ..).trans (h.fold_fiber_r3_a2 ..)

theorem hostSumI (v : IVec ⟨4, ![n0, n1, n2, n3]⟩ 32) (c : IVec ⟨0, ![]⟩ 32)
    (h : (⟨4, ![n0, n1, n2, n3]⟩ : Shape).ReducesTo [3] ⟨3, ![n0, n1, n2]⟩) (hu : 0 < (⟨0, ![]⟩ : Shape).numel) (a : Fin n0) (b : Fin n1) (d : Fin n2) :
    Host.reduce IntOp.addi v c h hu (ix3 a b d) = Finset.univ.fold IntOp.addi (c (Shape.Idx.first hu)) fun k : Fin n3 => v (ix4 a b d k) :=
  (Host.reduce_eq_fold ..).trans (h.fold_fiber_r4_a3 ..)

end Cert.ReferenceIdeal.RI
-- ==== Proof.RI.Values.lean ====
/-
  The reference's buffers read at an index, at extended reals: the same row functions as the kernel's.
-/
module

public import proofs.«01_k».proof.Proof.RI.HostFold
public import Idealize.ShloMosaic.Lib.Pointwise

@[expose] public section

set_option maxRecDepth 16384

noncomputable section

namespace Cert.ReferenceIdeal.RI

open Idealize.ShloMosaic Idealize.ShloMosaic.TcCoe Idealize.ShloMosaic.Tactic
open Cert.ReferenceIdeal.Gen
open Cert.KernelIdeal.KI (hval kval col gh gp gy ksum kmean kcen krstd ky kamax)

variable (m : (ℓ : Loc nD τ sig) → Buf (Elt Ideal) ℓ) (c : Dev nD)

/-- Row `R` of the residual, of the launch's arguments. -/
def argH (R : Fin 2048) : ℕ → EReal := gh (m ((c : Thread nD τ).loc main_arg0)) (m ((c : Thread nD τ).loc main_arg1)) (m ((c : Thread nD τ).loc main_arg2)) (m ((c : Thread nD τ).loc main_arg3)) R
/-- Row `R` normalised, of the launch's arguments. -/
def argY (R : Fin 2048) : ℕ → EReal := gy (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) R

theorem v11_at (R : Fin 2048) (n : Fin 8192) : (V m c main_v11 : Vec Ideal S1x2048x8192 .bf16) (ix3 0 R n) = argH m c R n.val := by
  rw [V_v11, V_v1]
  generalize hx : (m ((c : Thread nD τ).loc main_arg0) : Vec Ideal S1x2048x8192 .bf16) = x
  generalize ha : (m ((c : Thread nD τ).loc main_arg1) : Vec Ideal S1x2048x8192 .bf16) = a
  generalize hb : (m ((c : Thread nD τ).loc main_arg2) : Vec Ideal S8192 .f32) = b
  generalize hw : (m ((c : Thread nD τ).loc main_arg3) : Vec Ideal S1x2048x8192 .i32) = w
  unfold argH gh
  rw [hx, ha, hb, hw]
  simp only [Cert.KernelIdeal.KI.col_val]
  unfold hval
  pointwise
  show _ + Scalar.select _ _ (Ideal.ofBits .f32 0x00000000#32) = _
  rw [Ideal.ofBits_zero_f32]

theorem v15_at (R : Fin 2048) : (V m c main_v15 : Vec Ideal S1x2048 .f32) (ix2 0 R) = kmean (argH m c R) := by
  have h := v11_at m c R
  rw [V_v15, V_v12]
  generalize (V m c main_v11 : Vec Ideal S1x2048x8192 .bf16) = x at h ⊢
  unfold kmean ksum
  simp only [← h]
  pointwise

theorem v18_at (R : Fin 2048) (n : Fin 8192) : (V m c main_v18 : Vec Ideal S1x2048x8192 .f32) (ix3 0 R n) = kcen (argH m c R) n.val := by
  have h := v11_at m c R n
  have h' := v15_at m c R
  rw [V_v18, V_v12]
  unfold kcen
  rw [← h, ← h']
  generalize (V m c main_v11 : Vec Ideal S1x2048x8192 .bf16) = x
  generalize (V m c main_v15 : Vec Ideal S1x2048 .f32) = y
  pointwise

theorem v25_at (R : Fin 2048) : (V m c main_v25 : Vec Ideal S1x2048 .f32) (ix2 0 R) = krstd (argH m c R) := by
  have h := v18_at m c R
  rw [V_v25]
  generalize (V m c main_v18 : Vec Ideal S1x2048x8192 .f32) = x at h ⊢
  unfold krstd ksum
  simp only [← h]
  pointwise

theorem v34_at (R : Fin 2048) (n : Fin 8192) : (V m c main_v34 : Vec Ideal S1x2048x8192 .f32) (ix3 0 R n) = argY m c R n.val := by
  have h := v18_at m c R n
  have h' := v25_at m c R
  rw [V_v34]
  unfold argY gy ky gp
  unfold argH at h h'
  rw [← h, ← h']
  simp only [Cert.KernelIdeal.KI.col_val]
  generalize (V m c main_v18 : Vec Ideal S1x2048x8192 .f32) = x
  generalize (V m c main_v25 : Vec Ideal S1x2048 .f32) = y
  pointwise

end Cert.ReferenceIdeal.RI
-- ==== Proof.RI.Scales.lean ====
/-
  The reference's scales and codes read at an index. The vector expressions are read over variables first.
-/
module

public import proofs.«01_k».proof.Proof.RI.Values

@[expose] public section

set_option maxRecDepth 16384

noncomputable section

namespace Cert.ReferenceIdeal.RI

open Idealize.ShloMosaic Idealize.ShloMosaic.TcCoe Idealize.ShloMosaic.Tactic
open Cert.ReferenceIdeal.Gen
open Cert.KernelIdeal.KI (hval kval col gh gp gy ksum kmean kcen krstd ky kamax)

/-! ## Over variables -/

theorem fold_max_eq_sup {ι : Type} (s : Finset ι) (f g : ι → EReal) (b : EReal) (hb : b = ⊥) (h : ∀ i, f i = g i) : Finset.fold max b f s = s.sup g := by
  subst hb
  rw [show f = g from funext h]
  rfl

theorem amax_vec (x : FVec Ideal S1x2048x8192 .f32) (y : ℕ → EReal) (R : Fin 2048) (h : ∀ n : Fin 8192, x (ix3 0 R n) = y n.val) :
    Host.reduce (FloatOps.maximumf (F := Ideal) (φ := .f32)) (Host.absf x) (constant (F := Ideal) S_ .f32 0xFF800000#32) reducesTo_S1x2048x8192_S1x2048_d2 h_S_ (ix2 0 R)
      = kamax y := by
  refine (hostMax (n0 := 1) (n1 := 2048) (n2 := 8192) (Host.absf x) (constant (F := Ideal) S_ .f32 0xFF800000#32) _ _ 0 R).trans ?_
  refine fold_max_eq_sup _ _ _ _ ?_ fun n => congrArg (FloatOps.absf (F := Ideal) (φ := .f32)) (h n)
  show Ideal.ofBits .f32 4286578688#32 = (⊥ : EReal)
  simp [Ideal.ofBits, Ideal.ieee]

theorem scaled_vec (z : FVec Ideal S1x2048 .f32) (j : S1x2048.Idx) :
    mulf z (broadcastInDim S1x2048 ![] bcast_S_S1x2048 (constant S_ .f32 0x3B124925#32)) j = z j * Ideal.ofBits .f32 0x3B124925#32 := by
  rfl

theorem table_vec (x : FVec Ideal S1x2048 .f32) (T : FVec Ideal S247 .f32) (R : Fin 2048) (k : Fin 247) :
    select (cmpf .olt (broadcastInDim S1x2048x247 ![0, 1, 2] bcast_S1x2048x1_S1x2048x247_0_1_2 (broadcastInDim S1x2048x1 ![0, 1] bcast_S1x2048_S1x2048x1_0_1 x))
      (broadcastInDim S1x2048x247 ![0, 1, 2] bcast_S1x1x247_S1x2048x247_0_1_2 (broadcastInDim S1x1x247 ![2] bcast_S247_S1x1x247_2 T)))
      (broadcastInDim S1x2048x247 ![2] bcast_S247_S1x2048x247_2 T)
      (broadcastInDim S1x2048x247 ![] bcast_S_S1x2048x247 (id (constant S_ .f32 0x7F800000#32))) (ix3 0 R k)
    = if x (ix2 0 R) < T (ix1 k) then T (ix1 k) else Ideal.ofBits .f32 0x7F800000#32 := by
  pointwise
  rfl

theorem select_and (a b : Prop) [Decidable a] [Decidable b] (x y : EReal) :
    Scalar.select (IntOp.andi (BitVec.ofBool (decide a)) (BitVec.ofBool (decide b))) x y = if a ∧ b then x else y := by
  by_cases ha : a <;> by_cases hb : b <;> simp [ha, hb, Scalar.select, IntOp.andi]

theorem scale_vec (x z : FVec Ideal S1x2048 .f32) (j : S1x2048.Idx) :
    select (andi (cmpf .oge x (broadcastInDim S1x2048 ![] bcast_S_S1x2048 (constant S_ .f32 0x00800000#32)))
      (cmpf .olt x (broadcastInDim S1x2048 ![] bcast_S_S1x2048 (constant S_ .f32 0x7B800000#32)))) z
      (broadcastInDim S1x2048 ![] bcast_S_S1x2048 (id (constant S_ .f32 0x3F800000#32))) j
    = if Ideal.ofBits .f32 0x00800000#32 ≤ x j ∧ x j < Ideal.ofBits .f32 0x7B800000#32 then z j else Ideal.ofBits .f32 0x3F800000#32 :=
  select_and _ _ _ _

theorem code_vec (x : FVec Ideal S1x2048x8192 .f32) (y : FVec Ideal S1x2048 .f32) (R : Fin 2048) (n : Fin 8192) :
    minimumf (broadcastInDim S1x2048x8192 ![] bcast_S_S1x2048x8192 (id (constant S_ .f32 0x43E00000#32)))
      (maximumf (broadcastInDim S1x2048x8192 ![] bcast_S_S1x2048x8192 (id (constant S_ .f32 0xC3E00000#32)))
        (mulf x (broadcastInDim S1x2048x8192 ![0, 1, 2] bcast_S1x2048x1_S1x2048x8192_0_1_2 (broadcastInDim S1x2048x1 ![0, 1] bcast_S1x2048_S1x2048x1_0_1
          (Host.divf (broadcastInDim S1x2048 ![] bcast_S_S1x2048 (constant S_ .f32 0x3F800000#32)) y))))) (ix3 0 R n)
    = min (Ideal.ofBits .f32 0x43E00000#32) (max (Ideal.ofBits .f32 0xC3E00000#32) (x (ix3 0 R n) * Ideal.div (Ideal.ofBits .f32 0x3F800000#32) (y (ix2 0 R)))) := by
  pointwise
  rfl

theorem least_vec (x : FVec Ideal S1x2048x247 .f32) (f : Fin 247 → EReal) (R : Fin 2048) (h : ∀ k : Fin 247, x (ix3 0 R k) = f k) :
    Host.reduce (FloatOps.minimumf (F := Ideal) (φ := .f32)) x (constant (F := Ideal) S_ .f32 0x7F800000#32) reducesTo_S1x2048x247_S1x2048_d2 h_S_ (ix2 0 R)
      = Finset.univ.fold min (Ideal.ofBits .f32 0x7F800000#32) f := by
  refine (hostMin (n0 := 1) (n1 := 2048) (n2 := 247) x (constant (F := Ideal) S_ .f32 0x7F800000#32) _ _ 0 R).trans ?_
  rw [show (fun k : Fin 247 => x (ix3 0 R k)) = f from funext h]
  rfl

/-! ## The mask, over variables -/

theorem trunc_vec (X : IVec S1x2048x1024 32) (j : S1x2048x1024.Idx) : trunci 8 X natLt_8_32 j = BitVec.setWidth 8 (X j) := rfl

theorem bits_vec (w : IVec S1x2048x8192 1) (R : Fin 2048) (n : Fin 1024) (k : Fin 8) :
    (Host.shli (extui 32 (shapeCast S1x2048x1024x8 w shapeCasts_S1x2048x8192_S1x2048x1024x8) natLt_1_32) (broadcastInDim S1x2048x1024x8 ![0, 1, 2, 3] bcast_S1x1x1x8_S1x2048x1024x8_0_1_2_3 (broadcastInDim S1x1x1x8 ![3] bcast_S8_S1x1x1x8_3 (iotaInDim S8 32 0)))) (ix4 0 R n k)
      = IntOp.shli .host (BitVec.setWidth 32 (w (ix3 0 R ⟨n.val * 8 + k.val, by omega⟩))) (BitVec.ofNat 32 k.val) := by
  pointwise

theorem mask_vec (w : IVec S1x2048x8192 1) (p : ℕ → BitVec 1) (R : Fin 2048) (n : Fin 1024) (h : ∀ k : Fin 8192, w (ix3 0 R k) = p k.val) :
    trunci 8 (Host.reduce IntOp.addi (Host.shli (extui 32 (shapeCast S1x2048x1024x8 w shapeCasts_S1x2048x8192_S1x2048x1024x8) natLt_1_32) (broadcastInDim S1x2048x1024x8 ![0, 1, 2, 3] bcast_S1x1x1x8_S1x2048x1024x8_0_1_2_3 (broadcastInDim S1x1x1x8 ![3] bcast_S8_S1x1x1x8_3 (iotaInDim S8 32 0)))) (constantI S_ 32 0#32) reducesTo_S1x2048x1024x8_S1x2048x1024_d3 h_S_) natLt_8_32 (ix3 0 R n)
      = BitVec.setWidth 8 (Finset.univ.fold IntOp.addi 0#32 fun k : Fin 8 => IntOp.shli .host (BitVec.setWidth 32 (p (n.val * 8 + k.val))) (BitVec.ofNat 32 k.val)) := by
  refine (trunc_vec _ _).trans (congrArg (BitVec.setWidth 8) ?_)
  refine (hostSumI (n0 := 1) (n1 := 2048) (n2 := 1024) (n3 := 8) _ (constantI S_ 32 0#32) _ _ 0 R n).trans ?_
  refine congrArg (fun f => Finset.fold IntOp.addi 0#32 f (Finset.univ : Finset (Fin 8))) (funext fun k => ?_)
  exact (bits_vec w R n k).trans (congrArg (fun b => IntOp.shli .host (BitVec.setWidth 32 b) (BitVec.ofNat 32 k.val)) (h _))

end Cert.ReferenceIdeal.RI
-- ==== Proof.RI.Codes.lean ====
/-
  The reference's scale, codes and mask of a row, as functions of the row.
-/
module

public import proofs.«01_k».proof.Proof.RI.Scales

@[expose] public section

set_option maxRecDepth 16384

noncomputable section

namespace Cert.ReferenceIdeal.RI

open Idealize.ShloMosaic Idealize.ShloMosaic.TcCoe Idealize.ShloMosaic.Tactic
open Cert.ReferenceIdeal.Gen
open Cert.KernelIdeal.KI (hval kval col gh gp gy ksum kmean kcen krstd ky kamax)

/-- Entry `k` of the table of powers of two. -/
def tab (k : Fin 247) : EReal := Ideal.ofBits .f32 (lit0 (S247.rowMajor (ix1 k)))

/-- The smallest power of two of the table above `v`, infinity if there is none. -/
def leastAbove (v : EReal) : EReal :=
  (Finset.univ : Finset (Fin 247)).fold min (Ideal.ofBits .f32 0x7F800000#32) fun k => if v < tab k then tab k else Ideal.ofBits .f32 0x7F800000#32

/-- The scale for `v`, the row's largest magnitude over 448. -/
def rscale (v : EReal) : EReal :=
  if Ideal.ofBits .f32 0x00800000#32 ≤ v ∧ v < Ideal.ofBits .f32 0x7B800000#32 then leastAbove v else Ideal.ofBits .f32 0x3F800000#32

variable (m : (ℓ : Loc nD τ sig) → Buf (Elt Ideal) ℓ) (c : Dev nD)

/-- The largest magnitude of row `R` over 448. -/
def rv (R : Fin 2048) : EReal := kamax (argY m c R) * Ideal.ofBits .f32 0x3B124925#32

theorem v38_at (R : Fin 2048) : (V m c main_v38 : Vec Ideal S1x2048 .f32) (ix2 0 R) = rv m c R :=
  ((congrFun (V_v38 m c) _).trans (scaled_vec _ _)).trans
    (congrArg (fun z => z * Ideal.ofBits .f32 0x3B124925#32) (amax_vec _ _ R fun n => v34_at m c R n))

theorem v44_at (R : Fin 2048) (k : Fin 247) : (V m c main_v44 : Vec Ideal S1x2048x247 .f32) (ix3 0 R k) = if rv m c R < tab k then tab k else Ideal.ofBits .f32 0x7F800000#32 := by
  have h := (congrFun (V_v44 m c) (ix3 0 R k)).trans (table_vec _ _ R k)
  rw [v38_at] at h
  exact h

theorem v51_at (R : Fin 2048) : (V m c main_v51 : Vec Ideal S1x2048 .f32) (ix2 0 R) = rscale (rv m c R) := by
  have h := (congrFun (V_v51 m c) (ix2 0 R)).trans (scale_vec _ _ _)
  rw [least_vec _ _ R fun k => v44_at m c R k, v38_at] at h
  exact h

theorem v57_at (R : Fin 2048) (n : Fin 8192) : (V m c main_v57 : Vec Ideal S1x2048x8192 .f32) (ix3 0 R n)
    = min (Ideal.ofBits .f32 0x43E00000#32) (max (Ideal.ofBits .f32 0xC3E00000#32) (argY m c R n.val * Ideal.div (Ideal.ofBits .f32 0x3F800000#32) (rscale (rv m c R)))) := by
  have h := (congrFun (V_v57 m c) (ix3 0 R n)).trans (code_vec _ _ R n)
  rw [v34_at, v51_at] at h
  exact h

/-- Lane `n` of row `R`: kept or not. -/
def argB (R : Fin 2048) (n : ℕ) : BitVec 1 := IntOp.cmpi .uge ((m ((c : Thread nD τ).loc main_arg3) : Vec Ideal S1x2048x8192 .i32) (ix3 0 R (col n))) 429496730#32

theorem keep_vec (w : IVec S1x2048x8192 32) (j : S1x2048x8192.Idx) :
    cmpi .uge w (broadcastInDim S1x2048x8192 ![] bcast_S_S1x2048x8192 (constantI S_ 32 429496730#32)) j = IntOp.cmpi .uge (w j) 429496730#32 := rfl

theorem v1_at (R : Fin 2048) (n : Fin 8192) : (V m c main_v1 : IVec S1x2048x8192 1) (ix3 0 R n) = argB m c R n.val := by
  have h := (congrFun (V_v1 m c) (ix3 0 R n)).trans (keep_vec _ _)
  unfold argB
  rw [Cert.KernelIdeal.KI.col_val]
  exact h

theorem v65_at (R : Fin 2048) (n : Fin 1024) : (V m c main_v65 : IVec S1x2048x1024 8) (ix3 0 R n)
    = BitVec.setWidth 8 (Finset.univ.fold IntOp.addi 0#32 fun k : Fin 8 => IntOp.shli .host (BitVec.setWidth 32 (argB m c R (n.val * 8 + k.val))) (BitVec.ofNat 32 k.val)) :=
  (congrFun (V_v65 m c) _).trans (mask_vec _ _ R n fun k => v1_at m c R k)

end Cert.ReferenceIdeal.RI
-- ==== Proof.RI.Table.lean ====
/-
  The table of powers of two: entry `k` is the word with exponent field `k + 1` and nothing else.
-/
module

public import proofs.«01_k».proof.Proof.RI.Codes

@[expose] public section

set_option maxRecDepth 16384

noncomputable section

namespace Cert.ReferenceIdeal.RI

open Idealize.ShloMosaic

theorem lit0_eq : ∀ k : Fin 247, lit0 k = BitVec.ofNat 32 (k.val + 1) <<< 23 := by
  decide +kernel

theorem rowMajor_one (k : Fin 247) : S247.rowMajor (ix1 k) = k := Fin.ext (Nat.mul_one k.val)

end Cert.ReferenceIdeal.RI
-- ==== Proof.RI.ScaleEq.lean ====
/-
  The two ways of finding a row's power-of-two scale agree: the kernel searches the exponent field of the value by bisection,
  the reference takes the smallest power of two of a table above it.
-/
module

public import proofs.«01_k».proof.Proof.RI.Table

@[expose] public section

set_option maxRecDepth 16384

noncomputable section

namespace Cert.ReferenceIdeal.RI

open Idealize.ShloMosaic
open Cert.KernelIdeal.KI (fstep kfield kexp kscale kinv)

/-- The value of the word whose exponent field is `f` and whose other bits are zero. -/
def pw (f : ℕ) : EReal := Ideal.ofBits .f32 (BitVec.ofNat 32 f <<< 23)

theorem pw_zero : pw 0 = 0 := Ideal.ofBits_zero_f32

theorem bits_sign : ∀ f : Fin 255, (BitVec.ofNat 32 f.val <<< 23).extractLsb' (8 + 23) 1 = 0#1 := by decide +kernel
theorem bits_exp : ∀ f : Fin 255, ((BitVec.ofNat 32 f.val <<< 23).extractLsb' 23 8).toNat = f.val := by decide +kernel
theorem bits_frac : ∀ f : Fin 255, ((BitVec.ofNat 32 f.val <<< 23).extractLsb' 0 23).toNat = 0 := by decide +kernel

theorem ieee_pow (x : BitVec 32) (f : ℕ) (h1 : 1 ≤ f) (h2 : f ≤ 254) (e1 : x.extractLsb' (8 + 23) 1 = 0#1) (e2 : (x.extractLsb' 23 8).toNat = f)
    (e3 : (x.extractLsb' 0 23).toNat = 0) : Ideal.ieee 8 23 x = (((2 : ℝ) ^ ((f : ℤ) - 127) : ℝ) : EReal) := by
  unfold Ideal.ieee
  dsimp only
  rw [e1, e2, e3, if_neg (by omega), if_neg (by omega)]
  rw [show ((0#1 : BitVec 1) == 1#1) = false from rfl]
  simp only [Bool.false_eq_true, if_false, add_zero, one_mul]
  have e : ((2 ^ 23 : ℕ) : ℝ) = (2 : ℝ) ^ (23 : ℤ) := by
    rw [Nat.cast_pow]
    exact (zpow_natCast (2 : ℝ) 23).symm
  rw [e, ← zpow_add₀ (by norm_num : (2 : ℝ) ≠ 0)]
  congr 2
  norm_num

theorem pw_eq {f : ℕ} (h1 : 1 ≤ f) (h2 : f ≤ 254) : pw f = (((2 : ℝ) ^ ((f : ℤ) - 127) : ℝ) : EReal) :=
  ieee_pow _ f h1 h2 (bits_sign ⟨f, by omega⟩) (bits_exp ⟨f, by omega⟩) (bits_frac ⟨f, by omega⟩)

theorem pw_top : pw 255 = ⊤ := by
  unfold pw
  simp [Ideal.ofBits, Ideal.ieee]

theorem pw_mono {f g : ℕ} (h : f ≤ g) (hg : g ≤ 255) : pw f ≤ pw g := by
  rcases Nat.lt_or_ge 254 g with h' | h'
  · obtain rfl : g = 255 := by omega
    rw [pw_top]; exact le_top
  · rcases Nat.eq_zero_or_pos g with rfl | hp
    · obtain rfl : f = 0 := by omega
      exact le_rfl
    · rcases Nat.eq_zero_or_pos f with rfl | hf
      · rw [pw_zero, pw_eq hp h']
        exact EReal.coe_nonneg.mpr (by positivity)
      · rw [pw_eq hp h', pw_eq hf (by omega)]
        exact EReal.coe_le_coe_iff.mpr (zpow_le_zpow_right₀ (by norm_num) (by omega))

theorem pw_pos {f : ℕ} (h1 : 1 ≤ f) (h2 : f ≤ 254) : 0 < pw f := by
  rw [pw_eq h1 h2]
  exact EReal.coe_pos.mpr (by positivity)

theorem pw_127 : pw 127 = 1 := by
  rw [pw_eq (by norm_num) (by norm_num)]; norm_num

/-! ## The bisection -/

theorem shl_field (t : ℕ) : IntOp.shli .vector (BitVec.ofNat 32 t) 23#32 = BitVec.ofNat 32 t <<< 23 := rfl

theorem fstep_nat (v : EReal) (f b : ℕ) : fstep v (BitVec.ofNat 32 f) (BitVec.ofNat 32 b) = BitVec.ofNat 32 (if v < pw (f + b) then f else f + b) := by
  unfold fstep
  have e : IntOp.addi (BitVec.ofNat 32 f) (BitVec.ofNat 32 b) = BitVec.ofNat 32 (f + b) := (BitVec.ofNat_add f b).symm
  rw [e, shl_field]
  show (if v < pw (f + b) then _ else _) = _
  split <;> rfl

/-- What the search knows of its field `f` while `w` is the width of the interval left. -/
def Inv (v : EReal) (f w : ℕ) : Prop := f + w ≤ 256 ∧ pw f ≤ v ∧ ∀ t, f + w ≤ t → t ≤ 255 → v < pw t

theorem Inv.step {v : EReal} {F : BitVec 32} {b : ℕ} (hb : 1 ≤ b) (h : ∃ f, F = BitVec.ofNat 32 f ∧ Inv v f (2 * b)) :
    ∃ f, fstep v F (BitVec.ofNat 32 b) = BitVec.ofNat 32 f ∧ Inv v f b := by
  obtain ⟨f, rfl, h0, h1, h2⟩ := h
  refine ⟨_, fstep_nat v f b, ?_⟩
  by_cases hv : v < pw (f + b)
  · rw [if_pos hv]
    exact ⟨by omega, h1, fun t ht ht' => hv.trans_le (pw_mono ht ht')⟩
  · rw [if_neg hv]
    exact ⟨by omega, not_lt.mp hv, fun t ht ht' => h2 t (by omega) ht'⟩

theorem kfield_spec {v : EReal} (h0 : 0 ≤ v) (h1 : v < pw 247) : ∃ f, f ≤ 246 ∧ kfield v = BitVec.ofNat 32 f ∧ pw f ≤ v ∧ v < pw (f + 1) := by
  have s0 : ∃ f, 0#32 = BitVec.ofNat 32 f ∧ Inv v f (2 * 128) :=
    ⟨0, rfl, by omega, by rw [pw_zero]; exact h0, fun t ht ht' => by omega⟩
  obtain ⟨f, e, hf, hl, hu⟩ := Inv.step (b := 1) (by norm_num) (Inv.step (b := 2) (by norm_num) (Inv.step (b := 4) (by norm_num) (Inv.step (b := 8) (by norm_num)
    (Inv.step (b := 16) (by norm_num) (Inv.step (b := 32) (by norm_num) (Inv.step (b := 64) (by norm_num) (Inv.step (b := 128) (by norm_num) s0)))))))
  have hf' : f ≤ 246 := by
    by_contra hc
    exact absurd h1 (not_lt.mpr ((pw_mono (by omega) (by omega)).trans hl))
  refine ⟨f, hf', ?_, hl, hu _ (by omega) (by omega)⟩
  unfold kfield
  rw [if_pos (show v < Ideal.ofBits .f32 0x7B800000#32 from h1)]
  exact e

theorem kfield_big {v : EReal} (h1 : ¬ v < pw 247) : kfield v = 255#32 := by
  unfold kfield
  exact if_neg h1

/-! ## The table -/

theorem tab_eq (k : Fin 247) : tab k = pw (k.val + 1) := by
  unfold tab pw
  rw [rowMajor_one, lit0_eq]

theorem leastAbove_eq {v : EReal} {f : ℕ} (hf : f ≤ 246) (hl : pw f ≤ v) (hu : v < pw (f + 1)) : leastAbove v = pw (f + 1) := by
  have einf : Ideal.ofBits .f32 0x7F800000#32 = (⊤ : EReal) := pw_top
  unfold leastAbove
  rw [einf]
  simp only [tab_eq]
  refine le_antisymm ?_ ?_
  · refine (Finset.fold_min_le (b := (⊤ : EReal)) (s := Finset.univ) _).mpr (Or.inr ⟨⟨f, by omega⟩, Finset.mem_univ _, ?_⟩)
    simp only [if_pos hu, le_refl]
  · refine (Finset.le_fold_min (b := (⊤ : EReal)) (s := Finset.univ) _).mpr ⟨le_top, fun k _ => ?_⟩
    split
    · rename_i hk
      refine pw_mono ?_ (by omega)
      by_contra hc
      exact absurd hk (not_lt.mpr ((pw_mono (by omega) (by omega)).trans hl))
    · exact le_top

/-! ## The two scales -/

theorem words_up : ∀ f : Fin 247, IntOp.shli .vector (IntOp.addi (IntOp.subi (BitVec.ofNat 32 f.val) 126#32) 127#32) 23#32 = BitVec.ofNat 32 (f.val + 1) <<< 23 := by
  decide +kernel

theorem words_down : ∀ f : Fin 247, IntOp.shli .vector (IntOp.subi 127#32 (IntOp.subi (BitVec.ofNat 32 f.val) 126#32)) 23#32 = BitVec.ofNat 32 (253 - f.val) <<< 23 := by
  decide +kernel

theorem select_mid : ∀ f : Fin 247, f.val ≠ 0 → IntOp.ori (IntOp.ori (IntOp.cmpi CmpIPredicate.eq (BitVec.ofNat 32 f.val) 0#32) (IntOp.cmpi CmpIPredicate.eq (BitVec.ofNat 32 f.val) 255#32)) 0#1 = 0#1 := by
  decide +kernel

theorem ori_one (x y : BitVec 1) (h : x = 1#1) : IntOp.ori x y = 1#1 := by
  subst h; revert y; decide

theorem one_ofBits : Ideal.ofBits .f32 0x3F800000#32 = (1 : EReal) := Ideal.ofBits_one_f32

/-- The kernel's exponent where the reference takes 1. -/
theorem kexp_zero {a : EReal} (h0 : 0 ≤ a * Ideal.ofBits .f32 0x3B124925#32)
    (h : ¬ (pw 1 ≤ a * Ideal.ofBits .f32 0x3B124925#32 ∧ a * Ideal.ofBits .f32 0x3B124925#32 < pw 247)) : kexp a = 0#32 := by
  unfold kexp
  generalize a * Ideal.ofBits .f32 0x3B124925#32 = v at h h0 ⊢
  by_cases hv : v < pw 247
  · obtain ⟨f, hf, e, hl, hu⟩ := kfield_spec h0 hv
    have hf0 : f = 0 := by
      by_contra hc
      exact h ⟨(pw_mono (by omega) (by omega)).trans hl, hv⟩
    subst hf0
    rw [e, ori_one _ _ (ori_one _ _ (by decide))]
    rfl
  · rw [kfield_big hv]
    have e : IntOp.ori (IntOp.cmpi CmpIPredicate.eq (255#32) 0#32) (IntOp.cmpi CmpIPredicate.eq (255#32) 255#32) = 1#1 := by decide
    rw [ori_one _ _ e]
    rfl

/-- The kernel's exponent elsewhere. -/
theorem kexp_mid {a : EReal} (h0 : 0 ≤ a * Ideal.ofBits .f32 0x3B124925#32)
    (h : pw 1 ≤ a * Ideal.ofBits .f32 0x3B124925#32 ∧ a * Ideal.ofBits .f32 0x3B124925#32 < pw 247) :
    ∃ f : Fin 247, kexp a = IntOp.subi (BitVec.ofNat 32 f.val) 126#32 ∧ 1 ≤ f.val ∧ leastAbove (a * Ideal.ofBits .f32 0x3B124925#32) = pw (f.val + 1) := by
  have ha : a ≠ 0 := by
    rintro rfl
    rw [zero_mul] at h
    exact absurd h.1 (not_le.mpr (pw_pos (by norm_num) (by norm_num)))
  unfold kexp
  generalize a * Ideal.ofBits .f32 0x3B124925#32 = v at h h0 ⊢
  obtain ⟨f, hf, e, hl, hu⟩ := kfield_spec h0 h.2
  have hf0 : f ≠ 0 := by
    rintro rfl
    exact absurd hu (not_lt.mpr h.1)
  refine ⟨⟨f, by omega⟩, ?_, by show 1 ≤ f; omega, leastAbove_eq hf hl hu⟩
  rw [e, decide_eq_false ha]
  show Scalar.select (IntOp.ori (IntOp.ori (IntOp.cmpi CmpIPredicate.eq (BitVec.ofNat 32 f) 0#32) (IntOp.cmpi CmpIPredicate.eq (BitVec.ofNat 32 f) 255#32)) 0#1) _ _ = _
  rw [select_mid ⟨f, by omega⟩ hf0]
  rfl

theorem pw_inv {f : ℕ} (h1 : 1 ≤ f) (h2 : f ≤ 246) : Ideal.div 1 (pw (f + 1)) = pw (253 - f) := by
  unfold Ideal.div
  rw [if_neg (pw_pos (by omega) (by omega)).ne', one_mul, pw_eq (by omega) (by omega), pw_eq (by omega) (by omega), ← EReal.coe_inv, ← zpow_neg]
  congr 2
  push_cast [Nat.cast_sub (show f ≤ 253 by omega)]
  ring

theorem scale_nonneg {a : EReal} (ha : 0 ≤ a) : 0 ≤ a * Ideal.ofBits .f32 0x3B124925#32 := by
  refine EReal.mul_nonneg ha ?_
  simp [Ideal.ofBits, Ideal.ieee]
  rw [← EReal.coe_mul]
  exact EReal.coe_nonneg.mpr (by positivity)

/-- The scale. -/
theorem kscale_eq {a : EReal} (ha : 0 ≤ a) : kscale a = rscale (a * Ideal.ofBits .f32 0x3B124925#32) := by
  unfold kscale rscale
  by_cases h : pw 1 ≤ a * Ideal.ofBits .f32 0x3B124925#32 ∧ a * Ideal.ofBits .f32 0x3B124925#32 < pw 247
  · obtain ⟨f, e, _, e'⟩ := kexp_mid (scale_nonneg ha) h
    rw [if_pos (show Ideal.ofBits .f32 0x00800000#32 ≤ _ ∧ _ < Ideal.ofBits .f32 0x7B800000#32 from h), e, e', words_up]
    rfl
  · rw [if_neg (show ¬ (Ideal.ofBits .f32 0x00800000#32 ≤ _ ∧ _ < Ideal.ofBits .f32 0x7B800000#32) from h), kexp_zero (scale_nonneg ha) h]
    rfl

/-- Its reciprocal. -/
theorem kinv_eq {a : EReal} (ha : 0 ≤ a) : kinv a = Ideal.div (Ideal.ofBits .f32 0x3F800000#32) (rscale (a * Ideal.ofBits .f32 0x3B124925#32)) := by
  unfold kinv rscale
  by_cases h : pw 1 ≤ a * Ideal.ofBits .f32 0x3B124925#32 ∧ a * Ideal.ofBits .f32 0x3B124925#32 < pw 247
  · obtain ⟨f, e, h1, e'⟩ := kexp_mid (scale_nonneg ha) h
    rw [if_pos (show Ideal.ofBits .f32 0x00800000#32 ≤ _ ∧ _ < Ideal.ofBits .f32 0x7B800000#32 from h), e, e', words_down, one_ofBits, pw_inv h1 (by omega)]
    rfl
  · rw [if_neg (show ¬ (Ideal.ofBits .f32 0x00800000#32 ≤ _ ∧ _ < Ideal.ofBits .f32 0x7B800000#32) from h), kexp_zero (scale_nonneg ha) h]
    show pw 127 = _
    rw [one_ofBits, pw_127]
    unfold Ideal.div
    rw [if_neg one_ne_zero, one_mul, show (1 : EReal) = ((1 : ℝ) : EReal) from rfl, ← EReal.coe_inv, inv_one]

end Cert.ReferenceIdeal.RI
-- ==== Proof.RI.MaskEq.lean ====
/-
  The two ways of packing the keep flags agree: the kernel multiplies a block of flags by a matrix of powers of two,
  the reference shifts each flag into its place and adds.
-/
module

public import proofs.«01_k».proof.Proof.RI.ScaleEq

@[expose] public section

set_option maxRecDepth 16384

noncomputable section

namespace Cert.ReferenceIdeal.RI

open Idealize.ShloMosaic
open Cert.KernelIdeal.KI (wmat kbyte)
open Cert.KernelIdeal (S1024x128)

/-! ## The matrix -/

theorem word_div : ∀ i : Fin 1024, IntOp.shrsi .vector (BitVec.ofNat 32 i.val) 3#32 = BitVec.ofNat 32 (i.val / 8) := by decide +kernel
theorem word_pow : ∀ i : Fin 1024, (IntOp.shli .vector 1#32 (IntOp.andi (BitVec.ofNat 32 i.val) 7#32)).toInt = ((2 ^ (i.val % 8) : ℕ) : ℤ) := by decide +kernel

theorem wmat_word (i : Fin 1024) (n : Fin 128) :
    wmat (ix2 i n) = FloatOps.sitofp (F := Ideal) .bf16 (Scalar.select (IntOp.cmpi .eq (IntOp.shrsi .vector (BitVec.ofNat 32 i.val) 3#32) (BitVec.ofNat 32 n.val))
      (IntOp.shli .vector 1#32 (IntOp.andi (BitVec.ofNat 32 i.val) 7#32)) 0#32) := by
  unfold wmat
  pointwise [Cert.KernelIdeal.Gen.k0_pay47]
  rfl

theorem cmpi_eq_nat {q n : ℕ} (hq : q < 128) (hn : n < 128) : IntOp.cmpi .eq (BitVec.ofNat 32 q) (BitVec.ofNat 32 n) = BitVec.ofBool (decide (q = n)) := by
  show BitVec.ofBool (BitVec.ofNat 32 q == BitVec.ofNat 32 n) = _
  congr 1
  by_cases h : q = n
  · subst h; simp
  · have : BitVec.ofNat 32 q ≠ BitVec.ofNat 32 n := fun e => h (by
      have := congrArg BitVec.toNat e
      simp only [BitVec.toNat_ofNat] at this
      omega)
    simp [h, this]

theorem wmat_at (i : Fin 1024) (n : Fin 128) : wmat (ix2 i n) = ((if i.val / 8 = n.val then 2 ^ (i.val % 8) else 0 : ℕ) : EReal) := by
  rw [wmat_word, word_div, cmpi_eq_nat (by omega) n.isLt]
  by_cases h : i.val / 8 = n.val
  · rw [decide_eq_true h, if_pos h]
    show (((IntOp.shli .vector 1#32 (IntOp.andi (BitVec.ofNat 32 i.val) 7#32)).toInt : ℝ) : EReal) = _
    rw [word_pow, Int.cast_natCast]
    rfl
  · rw [decide_eq_false h, if_neg h]
    show (((0#32 : BitVec 32).toInt : ℝ) : EReal) = _
    simp

/-! ## The sum of a byte -/

/-- The byte whose bit `k` is `B (8 n + k)`, as a number. -/
def byteNat (B : ℕ → BitVec 1) (n : ℕ) : ℕ := ∑ k ∈ Finset.range 8, (B (n * 8 + k)).toNat * 2 ^ k

theorem byteNat_lt (B : ℕ → BitVec 1) (n : ℕ) : byteNat B n < 256 := by
  unfold byteNat
  refine lt_of_le_of_lt (Finset.sum_le_sum (g := fun k => 1 * 2 ^ k) fun k _ => Nat.mul_le_mul_right _ (by have := (B (n * 8 + k)).isLt; omega)) (by decide)

theorem sum_blocks (f : ℕ → ℕ) (n : ℕ) (hn : n < 128) :
    ∑ i ∈ Finset.range 1024, f i * (if i / 8 = n then 2 ^ (i % 8) else 0) = ∑ k ∈ Finset.range 8, f (8 * n + k) * 2 ^ k := by
  rw [show 1024 = 128 * 8 from rfl, Finset.sum_range_mul_split]
  rw [Finset.sum_eq_single n]
  · refine Finset.sum_congr rfl fun k hk => ?_
    have hk := Finset.mem_range.mp hk
    rw [if_pos (by omega), show (n * 8 + k) % 8 = k by omega, show n * 8 + k = 8 * n + k by omega]
  · intro q _ hq
    refine Finset.sum_eq_zero fun k hk => ?_
    have hk := Finset.mem_range.mp hk
    rw [if_neg (by omega), mul_zero]
  · intro h
    exact absurd (Finset.mem_range.mpr hn) h

theorem select_nat : ∀ b : BitVec 1, Scalar.select b (1 : EReal) 0 = ((b.toNat : ℕ) : EReal) := by
  intro b
  rcases (by revert b; decide : b = 0#1 ∨ b = 1#1) with h | h <;> subst h <;> simp [Scalar.select]

theorem fptosi_nat {N : ℕ} (h : N < 256) : FloatOps.fptosi (F := Ideal) (φ := .f32) 32 ((N : ℕ) : EReal) = BitVec.ofNat 32 N := by
  show Ideal.fptosi 32 ((N : ℕ) : EReal) = _
  unfold Ideal.fptosi
  rw [show ((N : ℕ) : EReal) = ((N : ℝ) : EReal) from rfl, Ideal.toIntClamped_coe, if_pos (by positivity), Int.floor_natCast]
  rw [show max (-((2 ^ (32 - 1) : ℕ) : ℤ)) (min (((2 ^ (32 - 1) : ℕ) : ℤ) - 1) (N : ℤ)) = (N : ℤ) by norm_num; omega]
  exact BitVec.ofInt_natCast 32 N

theorem kbyte_nat (B : ℕ → BitVec 1) (k : ℕ → EReal) (hk : ∀ n, n < 8192 → k n = Scalar.select (B n) 1 0) {n : ℕ} (hn : n < 1024) :
    kbyte k n = BitVec.setWidth 8 (BitVec.ofNat 32 (byteNat B n)) := by
  unfold kbyte
  have e : (∑ i : Fin 1024, k (1024 * (n / 128) + i.val) * wmat (ix2 i ⟨n % 128, Nat.mod_lt _ (by decide)⟩)) = ((byteNat B n : ℕ) : EReal) := by
    have e1 : byteNat B n = ∑ i ∈ Finset.range 1024, (B (1024 * (n / 128) + i)).toNat * (if i / 8 = n % 128 then 2 ^ (i % 8) else 0) := by
      rw [sum_blocks (fun i => (B (1024 * (n / 128) + i)).toNat) (n % 128) (Nat.mod_lt _ (by decide))]
      unfold byteNat
      refine Finset.sum_congr rfl fun j _ => ?_
      rw [show 1024 * (n / 128) + (8 * (n % 128) + j) = n * 8 + j by omega]
    rw [e1, ← Fin.sum_univ_eq_sum_range (fun i => (B (1024 * (n / 128) + i)).toNat * (if i / 8 = n % 128 then 2 ^ (i % 8) else 0)) 1024, Nat.cast_sum]
    refine Finset.sum_congr rfl fun i _ => ?_
    rw [hk _ (by omega), wmat_at, select_nat, EReal.natCast_mul]
  rw [e, fptosi_nat (byteNat_lt B n)]

/-! ## The reference's byte -/

theorem shl_bit : ∀ (b : BitVec 1) (k : Fin 8), IntOp.shli .host (BitVec.setWidth 32 b) (BitVec.ofNat 32 k.val) = BitVec.ofNat 32 (b.toNat * 2 ^ k.val) := by
  decide +kernel

theorem fold_add {ι : Type} (s : Finset ι) (g : ι → ℕ) : s.fold IntOp.addi 0#32 (fun k => BitVec.ofNat 32 (g k)) = BitVec.ofNat 32 (∑ k ∈ s, g k) := by
  classical
  induction s using Finset.induction_on with
  | empty => rfl
  | insert a s ha ih =>
    rw [Finset.fold_insert ha, Finset.sum_insert ha, ih]
    exact (BitVec.ofNat_add _ _).symm

theorem byte_fold (B : ℕ → BitVec 1) (n : ℕ) :
    (Finset.univ.fold IntOp.addi 0#32 fun k : Fin 8 => IntOp.shli .host (BitVec.setWidth 32 (B (n * 8 + k.val))) (BitVec.ofNat 32 k.val)) = BitVec.ofNat 32 (byteNat B n) := by
  simp only [shl_bit]
  rw [fold_add]
  unfold byteNat
  rw [← Fin.sum_univ_eq_sum_range (fun k => (B (n * 8 + k)).toNat * 2 ^ k) 8]

/-- The mask. -/
theorem kbyte_eq (B : ℕ → BitVec 1) (k : ℕ → EReal) (hk : ∀ n, n < 8192 → k n = Scalar.select (B n) 1 0) {n : ℕ} (hn : n < 1024) :
    kbyte k n = BitVec.setWidth 8 (Finset.univ.fold IntOp.addi 0#32 fun k : Fin 8 => IntOp.shli .host (BitVec.setWidth 32 (B (n * 8 + k.val))) (BitVec.ofNat 32 k.val)) := by
  rw [kbyte_nat B k hk hn, byte_fold]

end Cert.ReferenceIdeal.RI
-- ==== Proof.RI.Final.lean ====
/-
  The reference's codes array after its conversion: the clipped row itself, a change of format being the identity here.
-/
module

public import proofs.«01_k».proof.Proof.RI.MaskEq

@[expose] public section

set_option maxRecDepth 16384

noncomputable section

namespace Cert.ReferenceIdeal.RI

open Idealize.ShloMosaic Idealize.ShloMosaic.TcCoe
open Cert.ReferenceIdeal.Gen

variable (m : (ℓ : Loc nD τ sig) → Buf (Elt Ideal) ℓ) (c : Dev nD)

/-- Both windows' blocks are their whole arrays. -/
theorem idx : ∀ t : Fin cfg0.N, win0_0.index t = ![0, 0, 0] ∧ win0_1.index t = ![0, 0, 0] :=
  (by decide +kernel : ∀ t : Fin grid0.N, _)

theorem iblk0 : iblk m c 0 t0_0 = V m c main_v57 := by
  unfold iblk
  show _ = V m c (Pipeline.arrRef spec0 0)
  generalize V m c (Pipeline.arrRef spec0 0) = x
  blk_ext! [idx t0_0]

theorem pay1_self (x : Vec Ideal S1x2048x8192 .f32) : k0_pay1 (F := Ideal) x = x := by
  unfold k0_pay1
  dsimp only
  rw [shapeCast_self]
  rfl

theorem final1 : (dats m 0 c).arrAt 1 cfg0.N = (V m c main_v57 : Vec Ideal S1x2048x8192 .f32) := by
  refine (dats m 0 c).arrAt_eq_of_after_last 1 t0_0 (by decide +kernel) _ fun j => ?_
  blk_simp
  rw [after0_1, iblk0]
  generalize V m c main_v57 = x
  unfold out0_1
  frame_out
  exact congrFun (pay1_self x) j

/-! ## The results as functions of the arguments -/

theorem idx3 {n1 n2 : ℕ} (j : (⟨3, ![1, n1, n2]⟩ : Shape).Idx) : j = ix3 0 (j 1) (j 2) := by
  funext a
  match a with
  | ⟨0, _⟩ => exact Fin.ext (by have : (j 0).val < 1 := (j 0).isLt; show (j 0).val = 0; omega)
  | ⟨1, _⟩ => rfl
  | ⟨2, _⟩ => rfl

theorem idx2 {n1 : ℕ} (j : (⟨2, ![1, n1]⟩ : Shape).Idx) : j = ix2 0 (j 1) := by
  funext a
  match a with
  | ⟨0, _⟩ => exact Fin.ext (by have : (j 0).val < 1 := (j 0).isLt; show (j 0).val = 0; omega)
  | ⟨1, _⟩ => rfl

open Cert.KernelIdeal.KI (kmean krstd kamax kcode kscale absf_nonneg)

theorem kamax_nonneg (y : ℕ → EReal) : 0 ≤ kamax y :=
  (absf_nonneg _).trans (Finset.le_sup (f := fun n : Fin 8192 => FloatOps.absf (F := Ideal) (φ := .f32) (y n.val)) (Finset.mem_univ 0))

theorem res0 : (V m c main_v57 : Vec Ideal S1x2048x8192 .f32) = fun j => kcode (argY m c (j 1)) (j 2).val := by
  funext j
  refine (congrArg (V m c main_v57 : Vec Ideal S1x2048x8192 .f32) (idx3 j)).trans ((v57_at m c (j 1) (j 2)).trans ?_)
  unfold rv kcode
  rw [← kinv_eq (kamax_nonneg _)]

theorem res1 : (V m c main_v51 : Vec Ideal S1x2048 .f32) = fun j => kscale (kamax (argY m c (j 1))) := by
  funext j
  refine (congrArg (V m c main_v51 : Vec Ideal S1x2048 .f32) (idx2 j)).trans ((v51_at m c (j 1)).trans ?_)
  unfold rv
  rw [← kscale_eq (kamax_nonneg _)]

theorem res2 (k : Fin 2048 → ℕ → EReal) (hk : ∀ R n, k R n = Scalar.select (argB m c R n) 1 0) :
    (V m c main_v65 : IVec S1x2048x1024 8) = fun j => Cert.KernelIdeal.KI.kbyte (k (j 1)) (j 2).val := by
  funext j
  refine (congrArg (V m c main_v65 : IVec S1x2048x1024 8) (idx3 j)).trans ((v65_at m c (j 1) (j 2)).trans ?_)
  exact (kbyte_eq (argB m c (j 1)) (k (j 1)) (fun n _ => hk _ n) (j 2).isLt).symm

theorem res3 : (V m c main_v15 : Vec Ideal S1x2048 .f32) = fun j => kmean (argH m c (j 1)) := by
  funext j
  exact (congrArg (V m c main_v15 : Vec Ideal S1x2048 .f32) (idx2 j)).trans (v15_at m c (j 1))

theorem res4 : (V m c main_v25 : Vec Ideal S1x2048 .f32) = fun j => krstd (argH m c (j 1)) := by
  funext j
  exact (congrArg (V m c main_v25 : Vec Ideal S1x2048 .f32) (idx2 j)).trans (v25_at m c (j 1))

theorem res5 : (V m c main_v11 : Vec Ideal S1x2048x8192 .bf16) = fun j => argH m c (j 1) (j 2).val := by
  funext j
  exact (congrArg (V m c main_v11 : Vec Ideal S1x2048x8192 .bf16) (idx3 j)).trans (v11_at m c (j 1) (j 2))

end Cert.ReferenceIdeal.RI
-- ==== Proof.RI.Algebra.lean ====
/-
  The algebraic claim: from equal arguments the kernel and the reference leave equal results, at the extended reals.
-/
module

public import proofs.«01_k».proof.Proof.RI.Final
public import proofs.«01_k».proof.Defs

@[expose] public section

set_option maxRecDepth 16384

noncomputable section

namespace Cert.KernelIdeal.KI

open Idealize.ShloMosaic Idealize.ShloMosaic.TcCoe
open Cert.KernelIdeal.Gen

variable (m : (ℓ : Loc nD τ sig) → Buf (Elt Ideal) ℓ) (ρ : Dev nD → PrngReg)

/-- The kernel's run: each result as a function of the arguments, the arguments unchanged. -/
theorem run_results : θ_run defs (onTc (τ := τ) (main (F := Ideal))) ⟨m, fun _ => 0, ρ⟩ (fun r => ∀ c : Dev nD,
      r.2.mem ((c.tc : Thread nD τ).loc main_v3_0) = (fun j => kcode (argY m c (j 1)) (j 2).val : Vec Ideal S1x2048x8192 .fp8e4m3)
      ∧ r.2.mem ((c.tc : Thread nD τ).loc main_v3_1) = (fun j => kscale (kamax (argY m c (j 1))) : Vec Ideal S1x2048 .f32)
      ∧ r.2.mem ((c.tc : Thread nD τ).loc main_v3_2) = (fun j => kbyte (argK m c (j 1)) (j 2).val : Vec Ideal S1x2048x1024 .i8)
      ∧ r.2.mem ((c.tc : Thread nD τ).loc main_v3_3) = (fun j => kmean (argH m c (j 1)) : Vec Ideal S1x2048 .f32)
      ∧ r.2.mem ((c.tc : Thread nD τ).loc main_v3_4) = (fun j => krstd (argH m c (j 1)) : Vec Ideal S1x2048 .f32)
      ∧ r.2.mem ((c.tc : Thread nD τ).loc main_v3_5) = (fun j => argH m c (j 1) (j 2).val : Vec Ideal S1x2048x8192 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r h c => ?_) (θ_run_and (run_main m ρ) (frame m ρ))
  exact ⟨((h.1 c).1 6).trans (final6 m c), ((h.1 c).1 7).trans (final7 m c), ((h.1 c).1 8).trans (final8 m c), ((h.1 c).1 9).trans (final9 m c),
    ((h.1 c).1 10).trans (final10 m c), ((h.1 c).1 11).trans (final11 m c), h.2.1 c⟩

end Cert.KernelIdeal.KI

namespace Cert.ReferenceIdeal.RI

open Idealize.ShloMosaic Idealize.ShloMosaic.TcCoe
open Cert.ReferenceIdeal.Gen
open Cert.KernelIdeal.KI (kmean krstd kamax kcode kscale kbyte)

variable (m : (ℓ : Loc nD τ sig) → Buf (Elt Ideal) ℓ) (ρ : Dev nD → PrngReg)

/-- The reference's run: each result as a function of the arguments, the arguments unchanged. -/
theorem run_results (k : (c : Dev nD) → Fin 2048 → ℕ → EReal) (hk : ∀ c R n, k c R n = Scalar.select (argB m c R n) 1 0) :
    θ_run defs (onTc (τ := τ) (main (F := Ideal))) ⟨m, fun _ => 0, ρ⟩ (fun r => ∀ c : Dev nD,
      r.2.mem ((c.tc : Thread nD τ).loc main_v66) = (fun j => kcode (argY m c (j 1)) (j 2).val : Vec Ideal S1x2048x8192 .fp8e4m3)
      ∧ r.2.mem ((c.tc : Thread nD τ).loc main_v51) = (fun j => kscale (kamax (argY m c (j 1))) : Vec Ideal S1x2048 .f32)
      ∧ r.2.mem ((c.tc : Thread nD τ).loc main_v65) = (fun j => kbyte (k c (j 1)) (j 2).val : Vec Ideal S1x2048x1024 .i8)
      ∧ r.2.mem ((c.tc : Thread nD τ).loc main_v15) = (fun j => kmean (argH m c (j 1)) : Vec Ideal S1x2048 .f32)
      ∧ r.2.mem ((c.tc : Thread nD τ).loc main_v25) = (fun j => krstd (argH m c (j 1)) : Vec Ideal S1x2048 .f32)
      ∧ r.2.mem ((c.tc : Thread nD τ).loc main_v11) = (fun j => argH m c (j 1) (j 2).val : Vec Ideal S1x2048x8192 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r h c => ?_) (θ_run_and (run_main m ρ) (frame m ρ))
  exact ⟨((h.1 c).1 1).trans ((final1 m c).trans (res0 m c)),
    ((h.1 c).2 main_v51 (Pipeline.mem_restRefs_of main_v51 (by decide) (by decide))).trans (res1 m c),
    ((h.1 c).2 main_v65 (Pipeline.mem_restRefs_of main_v65 (by decide) (by decide))).trans (res2 m c (k c) (hk c)),
    ((h.1 c).2 main_v15 (Pipeline.mem_restRefs_of main_v15 (by decide) (by decide))).trans (res3 m c),
    ((h.1 c).2 main_v25 (Pipeline.mem_restRefs_of main_v25 (by decide) (by decide))).trans (res4 m c),
    ((h.1 c).2 main_v11 (Pipeline.mem_restRefs_of main_v11 (by decide) (by decide))).trans (res5 m c), h.2.1 c⟩

end Cert.ReferenceIdeal.RI

namespace Cert.Proof

open Idealize.ShloMosaic Idealize.ShloMosaic.TcCoe
open Cert.KernelIdeal.KI (kmean krstd kamax kcode kscale kbyte kval gh gy)

theorem algebraic : Cert.algebraic_KernelIdeal_ReferenceIdeal := by
  intro m g m' g' _ hagree
  have eH : ∀ c, Cert.ReferenceIdeal.RI.argH m' c = Cert.KernelIdeal.KI.argH m c := fun c => by
    obtain ⟨h0, h1, h2, h3, h4, h5⟩ := hagree c
    funext R
    unfold Cert.ReferenceIdeal.RI.argH Cert.KernelIdeal.KI.argH
    rw [h0, h1, h2, h3]
  have eY : ∀ c, Cert.ReferenceIdeal.RI.argY m' c = Cert.KernelIdeal.KI.argY m c := fun c => by
    obtain ⟨h0, h1, h2, h3, h4, h5⟩ := hagree c
    funext R
    unfold Cert.ReferenceIdeal.RI.argY Cert.KernelIdeal.KI.argY
    rw [h0, h1, h2, h3, h4, h5]
  have eK : ∀ c R n, Cert.KernelIdeal.KI.argK m c R n = Scalar.select (Cert.ReferenceIdeal.RI.argB m' c R n) 1 0 := fun c R n => by
    obtain ⟨h0, h1, h2, h3, h4, h5⟩ := hagree c
    unfold Cert.ReferenceIdeal.RI.argB Cert.KernelIdeal.KI.argK
    rw [h3]
    rfl
  refine ⟨_, _, _, _, _, _, Cert.KernelIdeal.KI.run_results m g, ?_⟩
  have h := Cert.ReferenceIdeal.RI.run_results m' g' (fun c => Cert.KernelIdeal.KI.argK m c) eK
  simp only [eH, eY] at h
  exact h

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KFrame.Frame
public import proofs.«01_k».proof.Proof.KI.Frame
public import proofs.«01_k».proof.Proof.RI.Algebra
public import Idealize.ShloMosaic.Adequacy
public import Idealize.ShloMosaic.Init

@[expose] public section

noncomputable section

namespace Cert.Proof

theorem claim : Cert.Claim :=
  ⟨Cert.Kernel.Gen.facts, Cert.KernelIdeal.Gen.facts, Cert.ReferenceIdeal.Gen.facts,
    fun m ρ _ => Cert.Kernel.KFrame.frame m ρ,
    fun m ρ _ => Cert.KernelIdeal.KI.frame m ρ,
    fun m ρ _ => Cert.ReferenceIdeal.Gen.frame m ρ,
    trivial,
    algebraic⟩

end Cert.Proof

end
